-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v26_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1024x8x2 : Shape := ⟨3, ![1024, 8, 2]⟩
abbrev S1024x64x8x2 : Shape := ⟨4, ![1024, 64, 8, 2]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x64 : Shape := ⟨2, ![2, 64]⟩
abbrev S_ : Shape := ⟨0, ![]⟩

class Facts : Prop where
  bcast_S_S1024x8x2 : S_.BroadcastsInDim S1024x8x2 (![] : Fin 0 → Fin S1024x8x2.rank)
  reducesTo_S1024x8x2_S_d0_1_2 : S1024x8x2.ReducesTo [0, 1, 2] S_
  h_S_ : 0 < S_.numel
  bcast_S_S1024x64x8x2 : S_.BroadcastsInDim S1024x64x8x2 (![] : Fin 0 → Fin S1024x64x8x2.rank)
  reducesTo_S1024x64x8x2_S_d0_1_2_3 : S1024x64x8x2.ReducesTo [0, 1, 2, 3] S_
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S1024x8x2 .f32) (main_arg1 : FVec F S1024x64x8x2 .f32) (main_arg2 : FVec F S2x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S2x64 .f32) (main_arg11 : FVec F S64 .f32) : IVec S_ 1 :=
  let main_v0 : FVec F S1024x8x2 .f32 := Host.absf main_arg0
  let main_cst : FVec F S_ .f32 := constant S_ .f32 0x7F800000#32
  let main_v1 : FVec F S1024x8x2 .f32 := broadcastInDim S1024x8x2 ![] bcast_S_S1024x8x2 main_cst
  let main_v2 : IVec S1024x8x2 1 := cmpf .olt main_v0 main_v1
  let main_c : IVec S_ 1 := constantI S_ 1 1#1
  let main_v3 : IVec S_ 1 := (fun x v => Host.reduce IntOp.andi x v reducesTo_S1024x8x2_S_d0_1_2 h_S_) main_v2 main_c
  let main_v4 : FVec F S1024x64x8x2 .f32 := Host.absf main_arg1
  let main_cst_0 : FVec F S_ .f32 := constant S_ .f32 0x7F800000#32
  let main_v5 : FVec F S1024x64x8x2 .f32 := broadcastInDim S1024x64x8x2 ![] bcast_S_S1024x64x8x2 main_cst_0
  let main_v6 : IVec S1024x64x8x2 1 := cmpf .olt main_v4 main_v5
  let main_c_1 : IVec S_ 1 := constantI S_ 1 1#1
  let main_v7 : IVec S_ 1 := (fun x v => Host.reduce IntOp.andi x v reducesTo_S1024x64x8x2_S_d0_1_2_3 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  main_v13
-- ==== Kernel.lean ====
abbrev S1024x8x2 : Shape := ⟨3, ![1024, 8, 2]⟩
abbrev S1024x64x8x2 : Shape := ⟨4, ![1024, 64, 8, 2]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x64 : Shape := ⟨2, ![2, 64]⟩
abbrev S1024x64x16 : Shape := ⟨3, ![1024, 64, 16]⟩
abbrev S1024x16x64 : Shape := ⟨3, ![1024, 16, 64]⟩
abbrev S64x64x16 : Shape := ⟨3, ![64, 64, 16]⟩
abbrev S64x16x64 : Shape := ⟨3, ![64, 16, 64]⟩
abbrev S8 : Shape := ⟨1, ![8]⟩
abbrev S_ : Shape := ⟨0, ![]⟩
abbrev S8x2x8x128 : Shape := ⟨4, ![8, 2, 8, 128]⟩
abbrev S8x2x128 : Shape := ⟨3, ![8, 2, 128]⟩
abbrev S8x1 : Shape := ⟨2, ![8, 1]⟩
abbrev S8x2 : Shape := ⟨2, ![8, 2]⟩
abbrev S16x1024 : Shape := ⟨2, ![16, 1024]⟩
abbrev S1x128 : Shape := ⟨2, ![1, 128]⟩
abbrev S1x64 : Shape := ⟨2, ![1, 64]⟩
abbrev S1024x64x8x64 : Shape := ⟨4, ![1024, 64, 8, 64]⟩
abbrev S1024x64x128 : Shape := ⟨3, ![1024, 64, 128]⟩
abbrev S16x8x2 : Shape := ⟨3, ![16, 8, 2]⟩
abbrev S16x64x16 : Shape := ⟨3, ![16, 64, 16]⟩
abbrev S16x16x64 : Shape := ⟨3, ![16, 16, 64]⟩
abbrev S16x64x8x64 : Shape := ⟨4, ![16, 64, 8, 64]⟩
abbrev S16x64x128 : Shape := ⟨3, ![16, 64, 128]⟩
abbrev S16x1x2 : Shape := ⟨3, ![16, 1, 2]⟩
abbrev S1024x16 : Shape := ⟨2, ![1024, 16]⟩
abbrev S1024x1024 : Shape := ⟨2, ![1024, 1024]⟩
abbrev S16x64x8x128 : Shape := ⟨4, ![16, 64, 8, 128]⟩
abbrev S16x64x1x128 : Shape := ⟨4, ![16, 64, 1, 128]⟩
abbrev S1x1x1x128 : Shape := ⟨4, ![1, 1, 1, 128]⟩
abbrev S16x16 : Shape := ⟨2, ![16, 16]⟩
abbrev S16x8x128 : Shape := ⟨3, ![16, 8, 128]⟩
abbrev S16x1x128 : Shape := ⟨3, ![16, 1, 128]⟩
abbrev S1x1x128 : Shape := ⟨3, ![1, 1, 128]⟩
abbrev S16x1x8x128 : Shape := ⟨4, ![16, 1, 8, 128]⟩
abbrev S8192x128 : Shape := ⟨2, ![8192, 128]⟩
abbrev S8192x64 : Shape := ⟨2, ![8192, 64]⟩
abbrev S16x8x2x64 : Shape := ⟨4, ![16, 8, 2, 64]⟩
abbrev S16x1x1 : Shape := ⟨3, ![16, 1, 1]⟩
abbrev S16x1 : Shape := ⟨2, ![16, 1]⟩
abbrev S16x8x1 : Shape := ⟨3, ![16, 8, 1]⟩
abbrev S16x8 : Shape := ⟨2, ![16, 8]⟩
abbrev S16x8x1x64 : Shape := ⟨4, ![16, 8, 1, 64]⟩
abbrev S16x8x64 : Shape := ⟨3, ![16, 8, 64]⟩
abbrev S1x8x1 : Shape := ⟨3, ![1, 8, 1]⟩
abbrev S1x1x1x64 : Shape := ⟨4, ![1, 1, 1, 64]⟩
abbrev S16x64x8 : Shape := ⟨3, ![16, 64, 8]⟩
abbrev S16x64x8x1 : Shape := ⟨4, ![16, 64, 8, 1]⟩
abbrev S16x512x64 : Shape := ⟨3, ![16, 512, 64]⟩
abbrev S16x64x64 : Shape := ⟨3, ![16, 64, 64]⟩
abbrev S16x8x64x1 : Shape := ⟨4, ![16, 8, 64, 1]⟩
abbrev S16x8x64x64 : Shape := ⟨4, ![16, 8, 64, 64]⟩
abbrev S16x1x8x64 : Shape := ⟨4, ![16, 1, 8, 64]⟩
abbrev S16x3x8x64 : Shape := ⟨4, ![16, 3, 8, 64]⟩
abbrev S16x3x512 : Shape := ⟨3, ![16, 3, 512]⟩
abbrev S16x3x64 : Shape := ⟨3, ![16, 3, 64]⟩
abbrev S16x1x64 : Shape := ⟨3, ![16, 1, 64]⟩
abbrev S16x64x1 : Shape := ⟨3, ![16, 64, 1]⟩
abbrev S1x1x64 : Shape := ⟨3, ![1, 1, 64]⟩
abbrev S1024x8x8x128 : Shape := ⟨4, ![1024, 8, 8, 128]⟩

abbrev nBuf : Space → Nat
  | .hbm => 46
  | .vmem => 24
  | .smem => 0
  | _ => 0

abbrev bufTy : (tb : Table) → Fin (tcTables nBuf tb) → BufTy
  | .hbm, ⟨0, _⟩ => ⟨S1024x8x2, .f32⟩
  | .hbm, ⟨1, _⟩ => ⟨S1024x64x8x2, .f32⟩
  | .hbm, ⟨2, _⟩ => ⟨S2x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S2x64, .f32⟩
  | .hbm, ⟨11, _⟩ => ⟨S64, .f32⟩
  | .hbm, ⟨12, _⟩ => ⟨S1024x64x16, .f32⟩
  | .hbm, ⟨13, _⟩ => ⟨S1024x16x64, .f32⟩
  | .hbm, ⟨14, _⟩ => ⟨S8, .i32⟩
  | .hbm, ⟨15, _⟩ => ⟨S_, .f32⟩
  | .hbm, ⟨16, _⟩ => ⟨S8x2x8x128, .f32⟩
  | .hbm, ⟨17, _⟩ => ⟨S8x2x128, .f32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S8, .i32⟩
  | .hbm, ⟨25, _⟩ => ⟨S_, .i32⟩
  | .hbm, ⟨26, _⟩ => ⟨S8, .i32⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S8x1, .i32⟩
  | .hbm, ⟨33, _⟩ => ⟨S8x1, .i32⟩
  | .hbm, ⟨34, _⟩ => ⟨S8x2, .i32⟩
  | .hbm, ⟨35, _⟩ => ⟨S8x2x8x128, .f32⟩
  | .hbm, ⟨36, _⟩ => ⟨S16x1024, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x64, .f32⟩
  | .hbm, ⟨41, _⟩ => ⟨S1x64, .f32⟩
  | .hbm, ⟨42, _⟩ => ⟨S1024x64x16, .f32⟩
  | .hbm, ⟨43, _⟩ => ⟨S1024x64x8x64, .f32⟩
  | .hbm, ⟨44, _⟩ => ⟨S1024x64x128, .f32⟩
  | .hbm, ⟨45, _⟩ => ⟨S1024x8x8x128, .f32⟩
  | .local _ .vmem, ⟨0, _⟩ => ⟨S64x64x16, .f32⟩
  | .local _ .vmem, ⟨1, _⟩ => ⟨S64x64x16, .f32⟩
  | .local _ .vmem, ⟨2, _⟩ => ⟨S64x16x64, .f32⟩
  | .local _ .vmem, ⟨3, _⟩ => ⟨S64x16x64, .f32⟩
  | .local _ .vmem, ⟨4, _⟩ => ⟨S16x8x2, .f32⟩
  | .local _ .vmem, ⟨5, _⟩ => ⟨S16x8x2, .f32⟩
  | .local _ .vmem, ⟨6, _⟩ => ⟨S16x64x16, .f32⟩
  | .local _ .vmem, ⟨7, _⟩ => ⟨S16x64x16, .f32⟩
  | .local _ .vmem, ⟨8, _⟩ => ⟨S16x16x64, .f32⟩
  | .local _ .vmem, ⟨9, _⟩ => ⟨S16x16x64, .f32⟩
  | .local _ .vmem, ⟨10, _⟩ => ⟨S16x1024, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S2x64, .f32⟩
  | .local _ .vmem, ⟨19, _⟩ => ⟨S1x64, .f32⟩
  | .local _ .vmem, ⟨20, _⟩ => ⟨S16x64x8x64, .f32⟩
  | .local _ .vmem, ⟨21, _⟩ => ⟨S16x64x8x64, .f32⟩
  | .local _ .vmem, ⟨22, _⟩ => ⟨S16x64x128, .f32⟩
  | .local _ .vmem, ⟨23, _⟩ => ⟨S16x64x128, .f32⟩
  | _, _ => ⟨S1024x8x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg13_1 : Ref sig .tc := ⟨.vmem, 21, rfl⟩
abbrev cc1_stg14_0 : Ref sig .tc := ⟨.vmem, 22, rfl⟩
abbrev cc1_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem13_1 : DmaSem sig := 21
abbrev cc1_sem14_0 : DmaSem sig := 22
abbrev cc1_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x8x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x64x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S2x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S16x64x8x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S16x64x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== ReferenceIdeal.lean ====
abbrev S1024x8x2 : Shape := ⟨3, ![1024, 8, 2]⟩
abbrev S1024x64x8x2 : Shape := ⟨4, ![1024, 64, 8, 2]⟩
abbrev S2x128 : Shape := ⟨2, ![2, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x64 : Shape := ⟨2, ![2, 64]⟩
abbrev S1024x1x2 : Shape := ⟨3, ![1024, 1, 2]⟩
abbrev S1024x1x8x2 : Shape := ⟨4, ![1024, 1, 8, 2]⟩
abbrev S1024x64x1x2 : Shape := ⟨4, ![1024, 64, 1, 2]⟩
abbrev S1024x65x8x2 : Shape := ⟨4, ![1024, 65, 8, 2]⟩
abbrev S1024x65x8x128 : Shape := ⟨4, ![1024, 65, 8, 128]⟩
abbrev S1x1x1x128 : Shape := ⟨4, ![1, 1, 1, 128]⟩
abbrev S_ : Shape := ⟨0, ![]⟩
abbrev S1024x1x8x128 : Shape := ⟨4, ![1024, 1, 8, 128]⟩
abbrev S1024x64x8x128 : Shape := ⟨4, ![1024, 64, 8, 128]⟩
abbrev S1024x64x8x64 : Shape := ⟨4, ![1024, 64, 8, 64]⟩
abbrev S1x1x1x64 : Shape := ⟨4, ![1, 1, 1, 64]⟩
abbrev S1024x1x1x2 : Shape := ⟨4, ![1024, 1, 1, 2]⟩
abbrev S1024x64x8 : Shape := ⟨3, ![1024, 64, 8]⟩
abbrev S1024x64x8x1 : Shape := ⟨4, ![1024, 64, 8, 1]⟩
abbrev S1024x8 : Shape := ⟨2, ![1024, 8]⟩
abbrev S1024x8x64 : Shape := ⟨3, ![1024, 8, 64]⟩
abbrev S1024x8x1 : Shape := ⟨3, ![1024, 8, 1]⟩
abbrev S1024x8x1x2 : Shape := ⟨4, ![1024, 8, 1, 2]⟩
abbrev S1024x8x8x2 : Shape := ⟨4, ![1024, 8, 8, 2]⟩
abbrev S1024x8x1x64 : Shape := ⟨4, ![1024, 8, 1, 64]⟩
abbrev S1024x8x8x64 : Shape := ⟨4, ![1024, 8, 8, 64]⟩
abbrev S1024x8x8x128 : Shape := ⟨4, ![1024, 8, 8, 128]⟩

abbrev nBuf : Space → Nat
  | .hbm => 360
  | .vmem => 0
  | .smem => 0
  | _ => 0

abbrev hbmTy0_0 (i : Nat) : BufTy := match i % 128 with
  | 0 => ⟨S1024x8x2, .f32⟩
  | 1 => ⟨S1024x64x8x2, .f32⟩
  | 2 => ⟨S2x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S2x64, .f32⟩
  | 11 => ⟨S64, .f32⟩
  | 12 => ⟨S1024x1x2, .f32⟩
  | 13 => ⟨S1024x8x2, .f32⟩
  | 14 => ⟨S1024x8x2, .f32⟩
  | 15 => ⟨S1024x1x8x2, .f32⟩
  | 16 => ⟨S1024x64x1x2, .f32⟩
  | 17 => ⟨S1024x64x8x2, .f32⟩
  | 18 => ⟨S1024x64x8x2, .f32⟩
  | 19 => ⟨S1024x65x8x2, .f32⟩
  | 20 => ⟨S1024x65x8x128, .f32⟩
  | 21 => ⟨S1x1x1x128, .f32⟩
  | 22 => ⟨S1024x65x8x128, .f32⟩
  | 23 => ⟨S1024x65x8x128, .f32⟩
  | 24 => ⟨S_, .f32⟩
  | 25 => ⟨S1024x65x8x128, .f32⟩
  | 26 => ⟨S1024x65x8x128, .f32⟩
  | 27 => ⟨S1024x1x8x128, .f32⟩
  | 28 => ⟨S1024x64x8x128, .f32⟩
  | 29 => ⟨S1024x64x8x128, .f32⟩
  | 30 => ⟨S1024x64x8x128, .f32⟩
  | 31 => ⟨S1024x64x8x128, .f32⟩
  | 32 => ⟨S1x1x1x128, .f32⟩
  | 33 => ⟨S1024x64x8x128, .f32⟩
  | 34 => ⟨S1024x64x8x128, .f32⟩
  | 35 => ⟨S_, .f32⟩
  | 36 => ⟨S1024x64x8x128, .f32⟩
  | 37 => ⟨S1024x64x8x128, .f32⟩
  | 38 => ⟨S1024x64x8x128, .f32⟩
  | 39 => ⟨S1x1x1x128, .f32⟩
  | 40 => ⟨S1024x64x8x128, .f32⟩
  | 41 => ⟨S1024x64x8x128, .f32⟩
  | 42 => ⟨S_, .f32⟩
  | 43 => ⟨S1024x64x8x128, .f32⟩
  | 44 => ⟨S1024x64x8x128, .f32⟩
  | 45 => ⟨S1024x64x8x64, .f32⟩
  | 46 => ⟨S1x1x1x64, .f32⟩
  | 47 => ⟨S1024x64x8x64, .f32⟩
  | 48 => ⟨S1024x64x8x64, .f32⟩
  | 49 => ⟨S_, .f32⟩
  | 50 => ⟨S1024x64x8x64, .f32⟩
  | 51 => ⟨S1024x64x8x64, .f32⟩
  | 52 => ⟨S1024x1x2, .f32⟩
  | 53 => ⟨S1024x1x1x2, .f32⟩
  | 54 => ⟨S1024x64x8x2, .f32⟩
  | 55 => ⟨S1024x64x8x2, .f32⟩
  | 56 => ⟨S1024x1x8x2, .f32⟩
  | 57 => ⟨S1024x64x8x2, .f32⟩
  | 58 => ⟨S1024x64x8x2, .f32⟩
  | 59 => ⟨S1024x64x8x2, .f32⟩
  | 60 => ⟨S_, .f32⟩
  | 61 => ⟨S1024x64x8, .f32⟩
  | 62 => ⟨S1024x64x8, .f32⟩
  | 63 => ⟨S1024x64x8x1, .f32⟩
  | 64 => ⟨S1024x64x8, .f32⟩
  | 65 => ⟨S1024x64x8x1, .f32⟩
  | 66 => ⟨S1024x64x8, .f32⟩
  | 67 => ⟨S1024x64x8, .f32⟩
  | 68 => ⟨S_, .f32⟩
  | 69 => ⟨S_, .f32⟩
  | 70 => ⟨S1024x64x8, .f32⟩
  | 71 => ⟨S1024x64x8, .f32⟩
  | 72 => ⟨S_, .f32⟩
  | 73 => ⟨S1024x64x8, .f32⟩
  | 74 => ⟨S1024x64x8, .i1⟩
  | 75 => ⟨S_, .f32⟩
  | 76 => ⟨S1024x64x8, .f32⟩
  | 77 => ⟨S1024x64x8, .i1⟩
  | 78 => ⟨S_, .f32⟩
  | 79 => ⟨S_, .i1⟩
  | 80 => ⟨S1024x64x8, .i1⟩
  | 81 => ⟨S1024x64x8, .i1⟩
  | 82 => ⟨S1024x64x8, .i1⟩
  | 83 => ⟨S1024x64x8, .f32⟩
  | 84 => ⟨S1024x64x8, .f32⟩
  | 85 => ⟨S1024x64x8, .f32⟩
  | 86 => ⟨S_, .f32⟩
  | 87 => ⟨S1024x64x8, .f32⟩
  | 88 => ⟨S1024x64x8, .f32⟩
  | 89 => ⟨S1024x64x8, .i32⟩
  | 90 => ⟨S_, .f32⟩
  | 91 => ⟨S1024x64x8, .f32⟩
  | 92 => ⟨S1024x64x8, .f32⟩
  | 93 => ⟨S_, .f32⟩
  | 94 => ⟨S1024x64x8, .f32⟩
  | 95 => ⟨S1024x64x8, .i1⟩
  | 96 => ⟨S1024x64x8, .i32⟩
  | 97 => ⟨S_, .f32⟩
  | 98 => ⟨S1024x64x8, .f32⟩
  | 99 => ⟨S1024x64x8, .i1⟩
  | 100 => ⟨S1024x64x8, .i32⟩
  | 101 => ⟨S1024x64x8, .i32⟩
  | 102 => ⟨S1024x64x8, .i32⟩
  | 103 => ⟨S_, .i32⟩
  | 104 => ⟨S1024x64x8, .i32⟩
  | 105 => ⟨S1024x64x8, .i32⟩
  | 106 => ⟨S_, .i32⟩
  | 107 => ⟨S1024x64x8, .i32⟩
  | 108 => ⟨S1024x64x8, .i32⟩
  | 109 => ⟨S1024x64x8, .i32⟩
  | 110 => ⟨S_, .i32⟩
  | 111 => ⟨S1024x64x8, .i32⟩
  | 112 => ⟨S1024x64x8, .i1⟩
  | 113 => ⟨S1024x64x8, .f32⟩
  | 114 => ⟨S_, .f32⟩
  | 115 => ⟨S1024x8, .f32⟩
  | 116 => ⟨S_, .f32⟩
  | 117 => ⟨S1024x8, .f32⟩
  | 118 => ⟨S1024x8, .f32⟩
  | 119 => ⟨S1024x64x8, .f32⟩
  | 120 => ⟨S_, .f32⟩
  | 121 => ⟨S1024x8, .f32⟩
  | 122 => ⟨S1024x8, .f32⟩
  | 123 => ⟨S1024x64x8, .f32⟩
  | 124 => ⟨S_, .f32⟩
  | 125 => ⟨S1024x8, .f32⟩
  | 126 => ⟨S1024x8, .f32⟩
  | 127 => ⟨S1024x64x8x1, .f32⟩
  | _ => ⟨S1024x8x2, .f32⟩

abbrev hbmTy0_1 (i : Nat) : BufTy := match i % 128 with
  | 0 => ⟨S1024x64x8x64, .f32⟩
  | 1 => ⟨S1024x64x8x64, .f32⟩
  | 2 => ⟨S_, .f32⟩
  | 3 => ⟨S1024x8x64, .f32⟩
  | 4 => ⟨S1024x8x1, .f32⟩
  | 5 => ⟨S1024x8x64, .f32⟩
  | 6 => ⟨S1024x8x64, .f32⟩
  | 7 => ⟨S_, .i32⟩
  | 8 => ⟨S1024x64x8, .i32⟩
  | 9 => ⟨S1024x64x8, .i1⟩
  | 10 => ⟨S1024x64x8, .f32⟩
  | 11 => ⟨S_, .f32⟩
  | 12 => ⟨S1024x8, .f32⟩
  | 13 => ⟨S_, .f32⟩
  | 14 => ⟨S1024x8, .f32⟩
  | 15 => ⟨S1024x8, .f32⟩
  | 16 => ⟨S1024x64x8, .f32⟩
  | 17 => ⟨S_, .f32⟩
  | 18 => ⟨S1024x8, .f32⟩
  | 19 => ⟨S1024x8, .f32⟩
  | 20 => ⟨S1024x64x8, .f32⟩
  | 21 => ⟨S_, .f32⟩
  | 22 => ⟨S1024x8, .f32⟩
  | 23 => ⟨S1024x8, .f32⟩
  | 24 => ⟨S1024x64x8x1, .f32⟩
  | 25 => ⟨S1024x64x8x64, .f32⟩
  | 26 => ⟨S1024x64x8x64, .f32⟩
  | 27 => ⟨S_, .f32⟩
  | 28 => ⟨S1024x8x64, .f32⟩
  | 29 => ⟨S1024x8x1, .f32⟩
  | 30 => ⟨S1024x8x64, .f32⟩
  | 31 => ⟨S1024x8x64, .f32⟩
  | 32 => ⟨S_, .i32⟩
  | 33 => ⟨S1024x64x8, .i32⟩
  | 34 => ⟨S1024x64x8, .i1⟩
  | 35 => ⟨S1024x64x8, .f32⟩
  | 36 => ⟨S_, .f32⟩
  | 37 => ⟨S1024x8, .f32⟩
  | 38 => ⟨S_, .f32⟩
  | 39 => ⟨S1024x8, .f32⟩
  | 40 => ⟨S1024x8, .f32⟩
  | 41 => ⟨S1024x64x8, .f32⟩
  | 42 => ⟨S_, .f32⟩
  | 43 => ⟨S1024x8, .f32⟩
  | 44 => ⟨S1024x8, .f32⟩
  | 45 => ⟨S1024x64x8, .f32⟩
  | 46 => ⟨S_, .f32⟩
  | 47 => ⟨S1024x8, .f32⟩
  | 48 => ⟨S1024x8, .f32⟩
  | 49 => ⟨S1024x64x8x1, .f32⟩
  | 50 => ⟨S1024x64x8x64, .f32⟩
  | 51 => ⟨S1024x64x8x64, .f32⟩
  | 52 => ⟨S_, .f32⟩
  | 53 => ⟨S1024x8x64, .f32⟩
  | 54 => ⟨S1024x8x1, .f32⟩
  | 55 => ⟨S1024x8x64, .f32⟩
  | 56 => ⟨S1024x8x64, .f32⟩
  | 57 => ⟨S_, .i32⟩
  | 58 => ⟨S1024x64x8, .i32⟩
  | 59 => ⟨S1024x64x8, .i1⟩
  | 60 => ⟨S1024x64x8, .f32⟩
  | 61 => ⟨S_, .f32⟩
  | 62 => ⟨S1024x8, .f32⟩
  | 63 => ⟨S_, .f32⟩
  | 64 => ⟨S1024x8, .f32⟩
  | 65 => ⟨S1024x8, .f32⟩
  | 66 => ⟨S1024x64x8, .f32⟩
  | 67 => ⟨S_, .f32⟩
  | 68 => ⟨S1024x8, .f32⟩
  | 69 => ⟨S1024x8, .f32⟩
  | 70 => ⟨S1024x64x8, .f32⟩
  | 71 => ⟨S_, .f32⟩
  | 72 => ⟨S1024x8, .f32⟩
  | 73 => ⟨S1024x8, .f32⟩
  | 74 => ⟨S1024x64x8x1, .f32⟩
  | 75 => ⟨S1024x64x8x64, .f32⟩
  | 76 => ⟨S1024x64x8x64, .f32⟩
  | 77 => ⟨S_, .f32⟩
  | 78 => ⟨S1024x8x64, .f32⟩
  | 79 => ⟨S1024x8x1, .f32⟩
  | 80 => ⟨S1024x8x64, .f32⟩
  | 81 => ⟨S1024x8x64, .f32⟩
  | 82 => ⟨S_, .i32⟩
  | 83 => ⟨S1024x64x8, .i32⟩
  | 84 => ⟨S1024x64x8, .i1⟩
  | 85 => ⟨S1024x64x8, .f32⟩
  | 86 => ⟨S_, .f32⟩
  | 87 => ⟨S1024x8, .f32⟩
  | 88 => ⟨S_, .f32⟩
  | 89 => ⟨S1024x8, .f32⟩
  | 90 => ⟨S1024x8, .f32⟩
  | 91 => ⟨S1024x64x8, .f32⟩
  | 92 => ⟨S_, .f32⟩
  | 93 => ⟨S1024x8, .f32⟩
  | 94 => ⟨S1024x8, .f32⟩
  | 95 => ⟨S1024x64x8, .f32⟩
  | 96 => ⟨S_, .f32⟩
  | 97 => ⟨S1024x8, .f32⟩
  | 98 => ⟨S1024x8, .f32⟩
  | 99 => ⟨S1024x64x8x1, .f32⟩
  | 100 => ⟨S1024x64x8x64, .f32⟩
  | 101 => ⟨S1024x64x8x64, .f32⟩
  | 102 => ⟨S_, .f32⟩
  | 103 => ⟨S1024x8x64, .f32⟩
  | 104 => ⟨S1024x8x1, .f32⟩
  | 105 => ⟨S1024x8x64, .f32⟩
  | 106 => ⟨S1024x8x64, .f32⟩
  | 107 => ⟨S_, .i32⟩
  | 108 => ⟨S1024x64x8, .i32⟩
  | 109 => ⟨S1024x64x8, .i1⟩
  | 110 => ⟨S1024x64x8, .f32⟩
  | 111 => ⟨S_, .f32⟩
  | 112 => ⟨S1024x8, .f32⟩
  | 113 => ⟨S_, .f32⟩
  | 114 => ⟨S1024x8, .f32⟩
  | 115 => ⟨S1024x8, .f32⟩
  | 116 => ⟨S1024x64x8, .f32⟩
  | 117 => ⟨S_, .f32⟩
  | 118 => ⟨S1024x8, .f32⟩
  | 119 => ⟨S1024x8, .f32⟩
  | 120 => ⟨S1024x64x8, .f32⟩
  | 121 => ⟨S_, .f32⟩
  | 122 => ⟨S1024x8, .f32⟩
  | 123 => ⟨S1024x8, .f32⟩
  | 124 => ⟨S1024x64x8x1, .f32⟩
  | 125 => ⟨S1024x64x8x64, .f32⟩
  | 126 => ⟨S1024x64x8x64, .f32⟩
  | 127 => ⟨S_, .f32⟩
  | _ => ⟨S1024x8x2, .f32⟩

abbrev hbmTy0_2 (i : Nat) : BufTy := match i % 128 with
  | 0 => ⟨S1024x8x64, .f32⟩
  | 1 => ⟨S1024x8x1, .f32⟩
  | 2 => ⟨S1024x8x64, .f32⟩
  | 3 => ⟨S1024x8x64, .f32⟩
  | 4 => ⟨S_, .i32⟩
  | 5 => ⟨S1024x64x8, .i32⟩
  | 6 => ⟨S1024x64x8, .i1⟩
  | 7 => ⟨S1024x64x8, .f32⟩
  | 8 => ⟨S_, .f32⟩
  | 9 => ⟨S1024x8, .f32⟩
  | 10 => ⟨S_, .f32⟩
  | 11 => ⟨S1024x8, .f32⟩
  | 12 => ⟨S1024x8, .f32⟩
  | 13 => ⟨S1024x64x8, .f32⟩
  | 14 => ⟨S_, .f32⟩
  | 15 => ⟨S1024x8, .f32⟩
  | 16 => ⟨S1024x8, .f32⟩
  | 17 => ⟨S1024x64x8, .f32⟩
  | 18 => ⟨S_, .f32⟩
  | 19 => ⟨S1024x8, .f32⟩
  | 20 => ⟨S1024x8, .f32⟩
  | 21 => ⟨S1024x64x8x1, .f32⟩
  | 22 => ⟨S1024x64x8x64, .f32⟩
  | 23 => ⟨S1024x64x8x64, .f32⟩
  | 24 => ⟨S_, .f32⟩
  | 25 => ⟨S1024x8x64, .f32⟩
  | 26 => ⟨S1024x8x1, .f32⟩
  | 27 => ⟨S1024x8x64, .f32⟩
  | 28 => ⟨S1024x8x64, .f32⟩
  | 29 => ⟨S_, .i32⟩
  | 30 => ⟨S1024x64x8, .i32⟩
  | 31 => ⟨S1024x64x8, .i1⟩
  | 32 => ⟨S1024x64x8, .f32⟩
  | 33 => ⟨S_, .f32⟩
  | 34 => ⟨S1024x8, .f32⟩
  | 35 => ⟨S_, .f32⟩
  | 36 => ⟨S1024x8, .f32⟩
  | 37 => ⟨S1024x8, .f32⟩
  | 38 => ⟨S1024x64x8, .f32⟩
  | 39 => ⟨S_, .f32⟩
  | 40 => ⟨S1024x8, .f32⟩
  | 41 => ⟨S1024x8, .f32⟩
  | 42 => ⟨S1024x64x8, .f32⟩
  | 43 => ⟨S_, .f32⟩
  | 44 => ⟨S1024x8, .f32⟩
  | 45 => ⟨S1024x8, .f32⟩
  | 46 => ⟨S1024x64x8x1, .f32⟩
  | 47 => ⟨S1024x64x8x64, .f32⟩
  | 48 => ⟨S1024x64x8x64, .f32⟩
  | 49 => ⟨S_, .f32⟩
  | 50 => ⟨S1024x8x64, .f32⟩
  | 51 => ⟨S1024x8x1, .f32⟩
  | 52 => ⟨S1024x8x64, .f32⟩
  | 53 => ⟨S1024x8x64, .f32⟩
  | 54 => ⟨S1024x8x1, .f32⟩
  | 55 => ⟨S1024x8x1, .f32⟩
  | 56 => ⟨S1024x8x2, .f32⟩
  | 57 => ⟨S1024x8x1, .f32⟩
  | 58 => ⟨S1024x8x1, .f32⟩
  | 59 => ⟨S1024x8x2, .f32⟩
  | 60 => ⟨S1024x8x1, .f32⟩
  | 61 => ⟨S1024x8x1, .f32⟩
  | 62 => ⟨S1024x8x2, .f32⟩
  | 63 => ⟨S1024x8x1, .f32⟩
  | 64 => ⟨S1024x8x1, .f32⟩
  | 65 => ⟨S1024x8x2, .f32⟩
  | 66 => ⟨S1024x8x1, .f32⟩
  | 67 => ⟨S1024x8x1, .f32⟩
  | 68 => ⟨S1024x8x2, .f32⟩
  | 69 => ⟨S1024x8x1, .f32⟩
  | 70 => ⟨S1024x8x1, .f32⟩
  | 71 => ⟨S1024x8x2, .f32⟩
  | 72 => ⟨S1024x8x1, .f32⟩
  | 73 => ⟨S1024x8x1, .f32⟩
  | 74 => ⟨S1024x8x2, .f32⟩
  | 75 => ⟨S1024x8x1, .f32⟩
  | 76 => ⟨S1024x8x1, .f32⟩
  | 77 => ⟨S1024x8x2, .f32⟩
  | 78 => ⟨S1024x8x1x2, .f32⟩
  | 79 => ⟨S1024x8x1x2, .f32⟩
  | 80 => ⟨S1024x8x1x2, .f32⟩
  | 81 => ⟨S1024x8x1x2, .f32⟩
  | 82 => ⟨S1024x8x1x2, .f32⟩
  | 83 => ⟨S1024x8x1x2, .f32⟩
  | 84 => ⟨S1024x8x1x2, .f32⟩
  | 85 => ⟨S1024x8x1x2, .f32⟩
  | 86 => ⟨S1024x8x8x2, .f32⟩
  | 87 => ⟨S1024x8x1x64, .f32⟩
  | 88 => ⟨S1024x8x1x64, .f32⟩
  | 89 => ⟨S1024x8x1x64, .f32⟩
  | 90 => ⟨S1024x8x1x64, .f32⟩
  | 91 => ⟨S1024x8x1x64, .f32⟩
  | 92 => ⟨S1024x8x1x64, .f32⟩
  | 93 => ⟨S1024x8x1x64, .f32⟩
  | 94 => ⟨S1024x8x1x64, .f32⟩
  | 95 => ⟨S1024x8x8x64, .f32⟩
  | 96 => ⟨S1024x8x8x64, .f32⟩
  | 97 => ⟨S1x1x1x64, .f32⟩
  | 98 => ⟨S1024x8x8x64, .f32⟩
  | 99 => ⟨S1024x8x8x64, .f32⟩
  | 100 => ⟨S_, .f32⟩
  | 101 => ⟨S1024x8x8x64, .f32⟩
  | 102 => ⟨S1024x8x8x64, .f32⟩
  | 103 => ⟨S1024x8x8x128, .f32⟩
  | _ => ⟨S1024x8x2, .f32⟩

abbrev hbmTy (i : Nat) : BufTy := match i / 128 with
  | 0 => hbmTy0_0 i
  | 1 => hbmTy0_1 i
  | 2 => hbmTy0_2 i
  | _ => ⟨S1024x8x2, .f32⟩

abbrev bufTy : (tb : Table) → Fin (tcTables nBuf tb) → BufTy
  | .hbm, ⟨i, _⟩ => hbmTy i
  | _, _ => ⟨S1024x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call2_cst : Ref sig .tc := ⟨.hbm, 42, rfl⟩
abbrev main_call2_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call3_cst : Ref sig .tc := ⟨.hbm, 49, rfl⟩
abbrev main_call3_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call4_v0 : Ref sig .tc := ⟨.hbm, 59, rfl⟩
abbrev main_call4_cst : Ref sig .tc := ⟨.hbm, 60, rfl⟩
abbrev main_call4_v1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst : Ref sig .tc := ⟨.hbm, 68, rfl⟩
abbrev main_call5_v0 : Ref sig .tc := ⟨.hbm, 69, rfl⟩
abbrev main_call5_v1 : Ref sig .tc := ⟨.hbm, 70, rfl⟩
abbrev main_call5_v2 : Ref sig .tc := ⟨.hbm, 71, rfl⟩
abbrev main_call5_cst : Ref sig .tc := ⟨.hbm, 72, rfl⟩
abbrev main_call5_v3 : Ref sig .tc := ⟨.hbm, 73, rfl⟩
abbrev main_call5_v4 : Ref sig .tc := ⟨.hbm, 74, rfl⟩
abbrev main_call5_cst_0 : Ref sig .tc := ⟨.hbm, 75, rfl⟩
abbrev main_call5_v5 : Ref sig .tc := ⟨.hbm, 76, rfl⟩
abbrev main_call5_v6 : Ref sig .tc := ⟨.hbm, 77, rfl⟩
abbrev main_call5_cst_1 : Ref sig .tc := ⟨.hbm, 78, rfl⟩
abbrev main_call5_v7 : Ref sig .tc := ⟨.hbm, 79, rfl⟩
abbrev main_call5_v8 : Ref sig .tc := ⟨.hbm, 80, rfl⟩
abbrev main_call5_v9 : Ref sig .tc := ⟨.hbm, 81, rfl⟩
abbrev main_call5_v10 : Ref sig .tc := ⟨.hbm, 82, rfl⟩
abbrev main_call5_v11 : Ref sig .tc := ⟨.hbm, 83, rfl⟩
abbrev main_call5_v12 : Ref sig .tc := ⟨.hbm, 84, rfl⟩
abbrev main_v45 : Ref sig .tc := ⟨.hbm, 85, rfl⟩
abbrev main_cst_0 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_cst_1 : Ref sig .tc := ⟨.hbm, 90, rfl⟩
abbrev main_v49 : Ref sig .tc := ⟨.hbm, 91, rfl⟩
abbrev main_v50 : Ref sig .tc := ⟨.hbm, 92, rfl⟩
abbrev main_cst_2 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_3 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c : Ref sig .tc := ⟨.hbm, 103, rfl⟩
abbrev main_v59 : Ref sig .tc := ⟨.hbm, 104, rfl⟩
abbrev main_v60 : Ref sig .tc := ⟨.hbm, 105, rfl⟩
abbrev main_c_4 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_c_5 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_6 : Ref sig .tc := ⟨.hbm, 114, rfl⟩
abbrev main_v67 : Ref sig .tc := ⟨.hbm, 115, rfl⟩
abbrev main_cst_7 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_8 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_9 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_10 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_c_11 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_cst_12 : Ref sig .tc := ⟨.hbm, 139, rfl⟩
abbrev main_v86 : Ref sig .tc := ⟨.hbm, 140, rfl⟩
abbrev main_cst_13 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_14 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_15 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_16 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_c_17 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_18 : Ref sig .tc := ⟨.hbm, 164, rfl⟩
abbrev main_v105 : Ref sig .tc := ⟨.hbm, 165, rfl⟩
abbrev main_cst_19 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_20 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_cst_21 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_cst_22 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_c_23 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_cst_24 : Ref sig .tc := ⟨.hbm, 189, rfl⟩
abbrev main_v124 : Ref sig .tc := ⟨.hbm, 190, rfl⟩
abbrev main_cst_25 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_26 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_27 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_cst_28 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_c_29 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_cst_30 : Ref sig .tc := ⟨.hbm, 214, rfl⟩
abbrev main_v143 : Ref sig .tc := ⟨.hbm, 215, rfl⟩
abbrev main_cst_31 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_cst_32 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_cst_33 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_cst_34 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_c_35 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_cst_36 : Ref sig .tc := ⟨.hbm, 239, rfl⟩
abbrev main_v162 : Ref sig .tc := ⟨.hbm, 240, rfl⟩
abbrev main_cst_37 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_cst_38 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_cst_39 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_cst_40 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_c_41 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_cst_42 : Ref sig .tc := ⟨.hbm, 264, rfl⟩
abbrev main_v181 : Ref sig .tc := ⟨.hbm, 265, rfl⟩
abbrev main_cst_43 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_cst_44 : Ref sig .tc := ⟨.hbm, 270, rfl⟩
abbrev main_v185 : Ref sig .tc := ⟨.hbm, 271, rfl⟩
abbrev main_v186 : Ref sig .tc := ⟨.hbm, 272, rfl⟩
abbrev main_v187 : Ref sig .tc := ⟨.hbm, 273, rfl⟩
abbrev main_cst_45 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_cst_46 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_c_47 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_cst_48 : Ref sig .tc := ⟨.hbm, 289, rfl⟩
abbrev main_v200 : Ref sig .tc := ⟨.hbm, 290, rfl⟩
abbrev main_cst_49 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_cst_50 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_cst_51 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_cst_52 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_v218 : Ref sig .tc := ⟨.hbm, 312, rfl⟩
abbrev main_v219 : Ref sig .tc := ⟨.hbm, 313, rfl⟩
abbrev main_v220 : Ref sig .tc := ⟨.hbm, 314, rfl⟩
abbrev main_v221 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_call6_cst : Ref sig .tc := ⟨.hbm, 356, rfl⟩
abbrev main_call6_v0 : Ref sig .tc := ⟨.hbm, 357, rfl⟩
abbrev main_v262 : Ref sig .tc := ⟨.hbm, 358, rfl⟩
abbrev main_v263 : Ref sig .tc := ⟨.hbm, 359, rfl⟩

abbrev nD : Nat := 1
abbrev τ : Topo := Topo.v7x

variable {F : FTy → Type} [FloatOps F]
-- ==== Proof.KRun.lean ====
/-
  The idealized kernel's run: from any launch memory, every weakly fair execution of @main ends with the two result
  arrays and the argument arrays at the contents the segment-by-segment fold leaves. The launch's set-up is the frame's.
-/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main terminates, nothing faulting, and leaves EVERY unscoped buffer at the last
    boundary's contents `W5`: the results and the arguments are read off this one fact. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c b hb => h c b hb)

/-- The run as a value claim needs it: the two results at the last boundary's contents, the arguments as launched. -/
theorem run : θ_run defs (onTc (τ := τ) (main (F := F))) ⟨m, fun _ => 0, ρ⟩ (fun r => ∀ c : Dev nD,
      r.2.mem ((c.tc : Thread nD τ).loc main_v27) = W5 m ρ c (Proc.devRef .tc main_v27)
      ∧ r.2.mem ((c.tc : Thread nD τ).loc main_v26_0) = W5 m ρ c (Proc.devRef .tc main_v26_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    have arg : ∀ a ∈ argRefs, (Proc.devRef .tc a : DevRef τ sig) ∈ Pipeline.ucRefs τ sig →
        r.2.mem ((c.tc : Thread nD τ).loc a) = m ((c.tc : Thread nD τ).loc a) :=
      fun a ha hu => (h c _ hu).trans (W5_args m ρ c a ha)
    ⟨h c _ (mem_uc main_v27 (by decide)), h c _ (mem_uc main_v26_0 (by decide)),
     arg main_arg0 (by simp) (mem_uc _ (by decide)), arg main_arg1 (by simp) (mem_uc _ (by decide)),
     arg main_arg2 (by simp) (mem_uc _ (by decide)), arg main_arg3 (by simp) (mem_uc _ (by decide)),
     arg main_arg4 (by simp) (mem_uc _ (by decide)), arg main_arg5 (by simp) (mem_uc _ (by decide)),
     arg main_arg6 (by simp) (mem_uc _ (by decide)), arg main_arg7 (by simp) (mem_uc _ (by decide)),
     arg main_arg8 (by simp) (mem_uc _ (by decide)), arg main_arg9 (by simp) (mem_uc _ (by decide)),
     arg main_arg10 (by simp) (mem_uc _ (by decide)), arg main_arg11 (by simp) (mem_uc _ (by decide))⟩) (run_all m ρ)

end Cert.KernelIdeal.Value

end
-- ==== Proof.Spec.lean ====
/-
  The mathematics both programs compute, over extended reals: one neighbour's displacement from the track, its
  distance, its angle in [0, one turn), the sector of the circle the angle lies in, and the 0/1 masks of the sectors;
  the embedding of a displacement and the three layers after it. No program's operation order appears here.
-/
module

public import Idealize.ShloMosaic.Lib.Pointwise
public import Idealize.ShloMosaic.Lib.Claim

@[expose] public section

noncomputable section

namespace Cert.Tracks

open Idealize.ShloMosaic

/-- One turn, two pi as single precision writes it. -/
def turn : EReal := Ideal.ofBits .f32 0x40C90FDB#32
/-- The width of one of the eight sectors. -/
def sector : EReal := Ideal.ofBits .f32 0x3F490FDB#32
/-- A displacement whose coordinates' sum is no larger than this is no neighbour. -/
def tiny : EReal := Ideal.ofBits .f32 0x358637BD#32
/-- A displacement no longer than this is no neighbour. -/
def near : EReal := Ideal.ofBits .f32 0x3BA3D70A#32
/-- What is added to a count before dividing by it. -/
def eps : EReal := Ideal.ofBits .f32 0x38D1B717#32

/-- The size of an extended real. -/
def size (x : EReal) : EReal := FloatOps.absf (F := Ideal) (φ := .f32) x

/-- The length of the displacement `(p, q)`. -/
def len (p q : EReal) : EReal := Ideal.sqrt (p * p + q * q)

/-- The remainder of the displacement's angle by one turn, with the sign of the angle. -/
def rem (p q : EReal) : EReal := Ideal.remf (Ideal.atan2 p q) turn

/-- The displacement's angle brought into [0, one turn). -/
def angle (p q : EReal) : EReal := if rem p q < 0 then rem p q + turn else rem p q

/-- The number of the sector the angle lies in. -/
def part (p q : EReal) : BitVec 32 := Ideal.fptosi 32 (Ideal.div (angle p q) sector)

/-- The displacement belongs to a neighbour that counts. -/
def Valid (p q : EReal) : Prop := tiny < size (p + q) ∧ near < len p q

open Classical in
/-- 1 where the displacement counts and lies in sector `k`, else 0. -/
def mask (p q : EReal) (k : ℕ) : EReal := if Valid p q ∧ part p q = BitVec.ofNat 32 k then 1 else 0

/-- The sum of a quantity `v` of the 64 neighbours over those in sector `k`. -/
def total (p q v : Fin 64 → EReal) (k : ℕ) : EReal := ∑ n, v n * mask (p n) (q n) k

/-- The number of neighbours in sector `k`, plus the small constant. -/
def count (p q : Fin 64 → EReal) (k : ℕ) : EReal := (∑ n, mask (p n) (q n) k) + eps

/-- The mean of `v` over the neighbours in sector `k`. -/
def mean (p q v : Fin 64 → EReal) (k : ℕ) : EReal := Ideal.div (total p q v k) (count p q k)

/-- One fully connected layer with its rectification. -/
def layer {a c : ℕ} (g : Fin a → EReal) (W : Fin a → Fin c → EReal) (b : Fin c → EReal) (j : Fin c) : EReal :=
  max ((∑ i, g i * W i j) + b j) 0

/-- The embedding of a track's point `u` as seen from the track's last point `v`. -/
def embed (u v : Fin 2 → EReal) (W : Fin 2 → Fin 128 → EReal) (b : Fin 128 → EReal) (d : Fin 128) : EReal :=
  layer (fun k => u k - v k) W b d

/-- The three layers applied to the product of the two embeddings of one neighbour at one step. -/
def social (x y xl yl : Fin 2 → EReal) (We : Fin 2 → Fin 128 → EReal) (be : Fin 128 → EReal)
    (W1 : Fin 128 → Fin 128 → EReal) (b1 : Fin 128 → EReal) (W2 : Fin 128 → Fin 128 → EReal) (b2 : Fin 128 → EReal)
    (W3 : Fin 128 → Fin 64 → EReal) (b3 : Fin 64 → EReal) : Fin 64 → EReal :=
  layer (layer (layer (fun d => embed x xl We be d * embed y yl We be d) W1 b1) W2 b2) W3 b3

/-- The embedding of a sector's mean distance and mean angle. -/
def position (dm am : EReal) (w0 w1 b : EReal) : EReal := max (dm * w0 + am * w1 + b) 0

/-- An extended real that is a real number. -/
def IsReal (x : EReal) : Prop := ∃ r : ℝ, x = (r : EReal)

/-! ## The constants -/

/-- One turn is a real between 6.28 and 6.3. -/
theorem turn_real : ∃ c : ℝ, turn = (c : EReal) ∧ 6.28 < c ∧ c < 6.3 ∧ sector = ((c / 8 : ℝ) : EReal) := by
  refine ⟨13176795 / 2097152, ?_, by norm_num, by norm_num, ?_⟩
  · simp [turn, Ideal.ofBits, Ideal.ieee, -EReal.coe_mul]; norm_num
  · simp [sector, Ideal.ofBits, Ideal.ieee, -EReal.coe_mul]; norm_num

/-- The constant added to a count is a positive real. -/
theorem eps_real : ∃ e : ℝ, eps = (e : EReal) ∧ 0 < e := by
  refine ⟨13743895 / 137438953472, ?_, by norm_num⟩
  simp [eps, Ideal.ofBits, Ideal.ieee, -EReal.coe_mul]; norm_num

/-! ## Reals among the extended reals -/

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- Moving a point by a difference is adding the one and taking the other away. -/
theorem shift_eq {y u v : EReal} (hy : IsReal y) (hu : IsReal u) (hv : IsReal v) : y + (u - v) = y + u - v := by
  obtain ⟨a, rfl⟩ := hy; obtain ⟨b, rfl⟩ := hu; obtain ⟨c, rfl⟩ := hv
  rw [← EReal.coe_sub, ← EReal.coe_add, ← EReal.coe_add, ← EReal.coe_sub]
  exact congrArg _ (by ring)

/-- The weighted sum of a displacement is the difference of the weighted sums, over reals. -/
theorem embed_split {u v : Fin 2 → EReal} {w : Fin 2 → EReal} (hu : ∀ k, IsReal (u k)) (hv : ∀ k, IsReal (v k))
    (hw : ∀ k, IsReal (w k)) : (∑ k, u k * w k) - (∑ k, v k * w k) = ∑ k, (u k - v k) * w k := by
  choose a ha using hu
  choose b hb using hv
  choose c hc using hw
  simp only [Fin.sum_univ_two, ha, hb, hc, ← EReal.coe_mul, ← EReal.coe_add, ← EReal.coe_sub]
  exact congrArg _ (by ring)

/-- A row of sixteen numbers against a column that is zero off one pair of places is that pair's weighted sum. -/
theorem pair_sum (y : Fin 8 → Fin 2 → EReal) (w : Fin 2 → EReal) (t : Fin 8) :
    (∑ j : Fin 16, y ⟨j.val / 2, by omega⟩ ⟨j.val % 2, by omega⟩
        * (if j.val / 2 = t.val then w ⟨j.val % 2, by omega⟩ else 0)) = ∑ k, y t k * w k := by
  rw [Fin.sum_univ_tiles 8 2 rfl, Finset.sum_eq_single t]
  · refine Finset.sum_congr rfl fun k _ => ?_
    have h1 : (t.val * 2 + k.val) / 2 = t.val := by omega
    have h2 : (t.val * 2 + k.val) % 2 = k.val := by omega
    simp only [h1, h2, if_true]
  · intro i _ hi
    refine Finset.sum_eq_zero fun k _ => ?_
    have h1 : ¬ (i.val * 2 + k.val) / 2 = t.val := fun h => hi (Fin.ext (by omega))
    simp only [h1, if_false, mul_zero]
  · exact fun h => absurd (Finset.mem_univ t) h

/-! ## The angle and its sector -/

/-- The angle of a real displacement lies between minus and plus 6.1. -/
theorem atan2_real (a b : ℝ) : ∃ r : ℝ, Ideal.atan2 (a : EReal) (b : EReal) = (r : EReal) ∧ -6.1 < r ∧ r < 6.1 := by
  refine ⟨_, rfl, ?_⟩
  have h1 := Real.neg_pi_div_two_lt_arctan (a / b)
  have h2 := Real.arctan_lt_pi_div_two (a / b)
  have h3 := Real.pi_le_four
  have h4 := Real.pi_pos
  split_ifs with c1 c2 c3 c4 c5
  · constructor <;> linarith
  · constructor <;> linarith
  · constructor <;> linarith
  · constructor <;> linarith
  · constructor <;> linarith
  · constructor <;> norm_num

/-- The angle of a real displacement is a real, not negative and less than one turn. -/
theorem angle_real {p q : EReal} (hp : IsReal p) (hq : IsReal q) :
    ∃ r c : ℝ, angle p q = (r : EReal) ∧ 0 ≤ r ∧ r < c ∧ 0 < c ∧ sector = ((c / 8 : ℝ) : EReal) := by
  obtain ⟨a, rfl⟩ := hp
  obtain ⟨b, rfl⟩ := hq
  obtain ⟨θ, hθ, h1, h2⟩ := atan2_real a b
  obtain ⟨c, hc, c1, c2, hs⟩ := turn_real
  have c0 : c ≠ 0 := by intro h; rw [h] at c1; norm_num at c1
  have cp : 0 < c := by linarith
  have ht : Ideal.truncInt (θ / c) = 0 := by
    have l1 : θ / c < 1 := (div_lt_one cp).2 (by linarith)
    have l2 : -1 < θ / c := by rw [lt_div_iff₀ cp]; linarith
    unfold Ideal.truncInt
    split_ifs with h
    · exact Int.floor_eq_zero_iff.2 ⟨h, l1⟩
    · exact Int.ceil_eq_zero_iff.2 ⟨l2, (not_le.1 h).le⟩
  have hr : rem (a : EReal) (b : EReal) = (θ : EReal) := by
    rw [rem, hθ, hc, Ideal.remf_coe, if_neg c0, ht]; simp
  by_cases hn : θ < 0
  · refine ⟨θ + c, c, ?_, by linarith, by linarith, cp, hs⟩
    rw [angle, hr, if_pos (by exact_mod_cast hn), hc, EReal.coe_add]
  · refine ⟨θ, c, ?_, not_lt.1 hn, by linarith, cp, hs⟩
    rw [angle, hr, if_neg (by exact_mod_cast hn)]

/-- A real displacement lies in one of the eight sectors. -/
theorem part_lt {p q : EReal} (hp : IsReal p) (hq : IsReal q) : ∃ k < 8, part p q = BitVec.ofNat 32 k := by
  obtain ⟨r, c, hr, h0, h1, hc, hs⟩ := angle_real hp hq
  have h8 : c / 8 ≠ 0 := by positivity
  have e : Ideal.div (angle p q) sector = ((r / (c / 8) : ℝ) : EReal) := by
    rw [hr, hs, Ideal.div_coe h8, ← EReal.coe_mul]
    exact congrArg _ (by ring)
  have n0 : 0 ≤ r / (c / 8) := by positivity
  have n8 : r / (c / 8) < 8 := by rw [div_lt_iff₀ (by positivity)]; linarith
  have f0 : 0 ≤ ⌊r / (c / 8)⌋ := Int.floor_nonneg.2 n0
  have f8 : ⌊r / (c / 8)⌋ < 8 := Int.floor_lt.2 (by exact_mod_cast n8)
  refine ⟨⌊r / (c / 8)⌋.toNat, by omega, ?_⟩
  rw [part, e, Ideal.fptosi, Ideal.toIntClamped_coe, if_pos n0]
  have : max (-((2 ^ (32 - 1) : ℕ) : ℤ)) (min (((2 ^ (32 - 1) : ℕ) : ℤ) - 1) ⌊r / (c / 8)⌋) = ((⌊r / (c / 8)⌋.toNat : ℕ) : ℤ) := by
    norm_num; omega
  rw [this]
  rfl

/-! ## The printed sign corrections -/

/-- The kernel's correction of the remainder's sign is the angle. -/
theorem angle_xor (p q : EReal) :
    Scalar.select (IntOp.andi (IntOp.xori (BitVec.ofBool (decide (rem p q < 0))) (BitVec.ofBool (decide (turn < 0))))
      (BitVec.ofBool (decide (rem p q ≠ 0)))) (rem p q + turn) (rem p q) = angle p q := by
  obtain ⟨c, hc, c1, -⟩ := turn_real
  have hn : ¬ turn < 0 := by rw [hc, not_lt]; exact_mod_cast (by linarith : (0 : ℝ) ≤ c)
  unfold angle Scalar.select IntOp.andi IntOp.xori
  by_cases h : rem p q < 0
  · simp [h, hn, ne_of_lt h]
  · simp [h, hn]

/-- The reference's correction of the remainder's sign is the angle. -/
theorem angle_ne (p q : EReal) :
    Scalar.select (IntOp.andi (IntOp.cmpi .ne (BitVec.ofBool (decide (rem p q < 0))) (BitVec.ofBool (decide (turn < 0))))
      (BitVec.ofBool (decide (rem p q ≠ 0)))) (rem p q + turn) (rem p q) = angle p q := by
  obtain ⟨c, hc, c1, -⟩ := turn_real
  have hn : ¬ turn < 0 := by rw [hc, not_lt]; exact_mod_cast (by linarith : (0 : ℝ) ≤ c)
  unfold angle Scalar.select IntOp.andi IntOp.cmpi
  by_cases h : rem p q < 0
  · simp [h, hn, ne_of_lt h]
  · simp [h, hn]

/-! ## The printed masks -/

/-- The kernel's code of a displacement at step `t`: eight times the step plus the sector, or all ones. -/
def code (p q : EReal) (t : ℕ) : BitVec 32 :=
  Scalar.select (IntOp.andi (BitVec.ofBool (decide (tiny < size (p + q)))) (BitVec.ofBool (decide (near < len p q))))
    (IntOp.addi (part p q) (IntOp.muli 8#32 (BitVec.ofNat 32 t))) 4294967295#32

/-- The code's indicator at column `8 t' + k` is the mask of sector `k` where the steps agree, else 0. -/
theorem code_mask {p q : EReal} (hp : IsReal p) (hq : IsReal q) (t t' k : Fin 8) :
    (((BitVec.setWidth 32 (IntOp.cmpi .eq (code p q t.val) (BitVec.ofNat 32 (t'.val * 8 + k.val)))).toInt : ℝ) : EReal)
      = if t = t' then mask p q k.val else 0 := by
  obtain ⟨j, hj, hpart⟩ := part_lt hp hq
  have key : code p q t.val = BitVec.ofNat 32 (t'.val * 8 + k.val) ↔ t = t' ∧ Valid p q ∧ part p q = BitVec.ofNat 32 k.val := by
    have ht := t.isLt; have ht' := t'.isLt; have hk := k.isLt
    unfold code Scalar.select IntOp.andi IntOp.addi IntOp.muli Valid
    rw [hpart]
    by_cases h1 : tiny < size (p + q) <;> by_cases h2 : near < len p q <;>
      simp only [h1, h2, decide_true, decide_false, true_and, false_and, and_false, iff_false, BitVec.ofBool_true, BitVec.ofBool_false]
    · rw [if_pos (by decide)]
      constructor
      · intro h
        have h' := congrArg BitVec.toNat h
        simp only [BitVec.toNat_add, BitVec.toNat_mul, BitVec.toNat_ofNat] at h'
        have e1 : t.val = t'.val := by omega
        have e2 : j = k.val := by omega
        exact ⟨Fin.ext e1, by rw [e2]⟩
      · rintro ⟨rfl, h⟩
        have h' := congrArg BitVec.toNat h
        simp only [BitVec.toNat_ofNat] at h'
        apply BitVec.eq_of_toNat_eq
        simp only [BitVec.toNat_add, BitVec.toNat_mul, BitVec.toNat_ofNat]
        omega
    all_goals
      rw [if_neg (by decide)]
      intro h
      have h' := congrArg BitVec.toNat h
      simp only [BitVec.toNat_ofNat] at h'
      omega
  unfold mask IntOp.cmpi
  by_cases h : code p q t.val = BitVec.ofNat 32 (t'.val * 8 + k.val)
  · obtain ⟨h1, h2⟩ := key.1 h
    rw [if_pos h1, if_pos h2]
    rw [beq_iff_eq.2 h, show (BitVec.setWidth 32 (BitVec.ofBool true)).toInt = 1 from by decide]
    norm_num
  · have h2 := fun a => h (key.2 a)
    trans (0 : EReal)
    swap
    · by_cases ht : t = t'
      · rw [if_pos ht, if_neg fun a => h2 ⟨ht, a⟩]
      · rw [if_neg ht]
    rw [beq_eq_false_iff_ne.2 h, show (BitVec.setWidth 32 (BitVec.ofBool false)).toInt = 0 from by decide]
    norm_num

/-- The reference's partition number of a displacement: the sector, or all ones. -/
def refPart (p q : EReal) : BitVec 32 :=
  IntOp.addi (IntOp.muli (part p q)
      (IntOp.muli (BitVec.setWidth 32 (BitVec.ofBool (decide (tiny < size (p + q))))) (BitVec.setWidth 32 (BitVec.ofBool (decide (near < len p q))))))
    (IntOp.muli 4294967295#32 (IntOp.subi 1#32
      (IntOp.muli (BitVec.setWidth 32 (BitVec.ofBool (decide (tiny < size (p + q))))) (BitVec.setWidth 32 (BitVec.ofBool (decide (near < len p q)))))))

/-- The indicator of the reference's partition number is the mask. -/
theorem ref_mask (p q : EReal) (k : ℕ) (hk : k < 8) :
    (((IntOp.cmpi .eq (refPart p q) (BitVec.ofNat 32 k)).toNat : ℝ) : EReal) = mask p q k := by
  have key : refPart p q = BitVec.ofNat 32 k ↔ Valid p q ∧ part p q = BitVec.ofNat 32 k := by
    have hm : ∀ j < 8, ¬ (4294967295#32 = BitVec.ofNat 32 j) := by decide
    unfold refPart IntOp.addi IntOp.muli IntOp.subi Valid
    by_cases h1 : tiny < size (p + q) <;> by_cases h2 : near < len p q <;>
      simp [h1, h2]
    all_goals exact hm k hk
  unfold mask IntOp.cmpi
  by_cases h : refPart p q = BitVec.ofNat 32 k
  · simp [h, key.1 h]
  · have h2 := fun a => h (key.2 a)
    rw [if_neg h2]
    simp [h]

/-- A mask is 0 or 1. -/
theorem mask_cases (p q : EReal) (k : ℕ) : mask p q k = 0 ∨ mask p q k = 1 := by
  unfold mask; split_ifs <;> simp

/-- A sector's count is a positive real. -/
theorem count_real (p q : Fin 64 → EReal) (k : ℕ) : ∃ c : ℝ, count p q k = (c : EReal) ∧ c ≠ 0 := by
  obtain ⟨e, he, h0⟩ := eps_real
  have h : ∀ n, ∃ r : ℝ, mask (p n) (q n) k = (r : EReal) ∧ 0 ≤ r := fun n => by
    rcases mask_cases (p n) (q n) k with h | h
    · exact ⟨0, by simpa using h, le_rfl⟩
    · exact ⟨1, by simpa using h, zero_le_one⟩
  choose r hr hn using h
  refine ⟨(∑ n, r n) + e, ?_, ?_⟩
  · rw [count, he, EReal.coe_add]
    refine congrArg (· + (e : EReal)) ?_
    simp only [hr]
    exact (map_sum (⟨⟨(fun x : ℝ => (x : EReal)), EReal.coe_zero⟩, EReal.coe_add⟩ : ℝ →+ EReal) r Finset.univ).symm
  · have := Finset.sum_nonneg (s := Finset.univ) fun n _ => hn n
    linarith [h0]

/-- Multiplying by a count's reciprocal is dividing by the count. -/
theorem mul_recip (p q : Fin 64 → EReal) (k : ℕ) (x : EReal) : x * Ideal.div 1 (count p q k) = Ideal.div x (count p q k) := by
  obtain ⟨c, hc, h0⟩ := count_real p q k
  rw [hc, Ideal.div_coe h0, Ideal.div_coe h0, one_mul]

end Cert.Tracks

end
-- ==== Proof.BodySocial.lean ====
/-
  What one grid step of the kernel's second launch computes of the social features, at an index: the embedded
  displacements by the block-diagonal weights, their product, and the three layers.
-/
module

public import proofs.«01_k».proof.Proof.Gen.KernelIdeal.Frame
public import Idealize.ShloMosaic.Lib.Pointwise
public import proofs.«01_k».proof.Proof.Spec

@[expose] public section

set_option maxRecDepth 16384

noncomputable section

namespace Cert.KernelIdeal.Value

open Cert.KernelIdeal Cert.KernelIdeal.Gen Cert.Tracks
open Idealize.ShloMosaic Idealize.ShloMosaic.TcCoe Idealize.SL.Sem

/-- A block-diagonal weight matrix: the two rows of step `t` hold `We` in the 128 columns of step `t`, all else is 0. -/
def BlockDiag (w : FVec Ideal S16x1024 .f32) (We : Fin 2 → Fin 128 → EReal) : Prop :=
  ∀ (j : Fin 16) (t : Fin 8) (d : Fin 128), w (ix2 j ⟨t.val * 128 + d.val, by omega⟩)
    = if j.val / 2 = t.val then We ⟨j.val % 2, by omega⟩ d else 0

/-- A row of a track's sixteen coordinates against a column of step `t` of the block-diagonal weights. -/
theorem row_diag {w : FVec Ideal S16x1024 .f32} {We : Fin 2 → Fin 128 → EReal} (hw : BlockDiag w We) (y : Fin 8 → Fin 2 → EReal)
    (t : Fin 8) (d : Fin 128) :
    (∑ j : Fin 16, y ⟨j.val / 2, by omega⟩ ⟨j.val % 2, by omega⟩ * w (ix2 j ⟨t.val * 128 + d.val, by omega⟩)) = ∑ k, y t k * We k d := by
  rw [← pair_sum y (fun k => We k d) t]
  exact Finset.sum_congr rfl fun j _ => by rw [hw j t d]

/-- One embedded displacement as the kernel computes it: the difference of two rows' products, the bias, the rectification. -/
theorem embed_row {w : FVec Ideal S16x1024 .f32} {We : Fin 2 → Fin 128 → EReal} (hw : BlockDiag w We) (y : Fin 8 → Fin 2 → EReal)
    (hy : ∀ t k, IsReal (y t k)) (hW : ∀ k d, IsReal (We k d)) (be : Fin 128 → EReal) (t : Fin 8) (d : Fin 128) :
    max ((∑ j : Fin 16, y ⟨j.val / 2, by omega⟩ ⟨j.val % 2, by omega⟩ * w (ix2 j ⟨t.val * 128 + d.val, by omega⟩))
        - (∑ j : Fin 16, y ⟨j.val / 2, by omega⟩ ⟨j.val % 2, by omega⟩ * w (ix2 j ⟨896 + d.val, by omega⟩)) + be d) 0
      = embed (y t) (y 7) We be d := by
  have h7 : ∀ j : Fin 16, w (ix2 j ⟨896 + d.val, by omega⟩) = w (ix2 j ⟨(7 : Fin 8).val * 128 + d.val, by omega⟩) := fun _ => rfl
  simp only [h7]
  rw [row_diag hw y t d, row_diag hw y 7 d, embed_split (hy t) (hy 7) (fun k => hW k d)]
  rfl

/-- The product of the two embeddings, row `(b, n, t)` of the block's 8192 rows. -/
theorem feat_at (x0 : FVec Ideal S16x8x2 .f32) (x1 : FVec Ideal S16x64x16 .f32) (w : FVec Ideal S16x1024 .f32) (be : FVec Ideal S1x128 .f32)
    {We : Fin 2 → Fin 128 → EReal} (hw : BlockDiag w We) (hW : ∀ k d, IsReal (We k d))
    (h0 : ∀ b t k, IsReal (x0 (ix3 b t k))) (h1 : ∀ b n j, IsReal (x1 (ix3 b n j)))
    (b : Fin 16) (n : Fin 64) (t : Fin 8) (d : Fin 128) :
    k1_pay3 (F := Ideal) x0 x1 w be w be (ix2 ⟨b.val * 512 + n.val * 8 + t.val, by omega⟩ d)
      = embed (fun k => x0 (ix3 b t k)) (fun k => x0 (ix3 b (7 : Fin 8) k)) We (fun d => be (ix2 (0 : Fin 1) d)) d
        * embed (fun k => x1 (ix3 b n ⟨t.val * 2 + k.val, by omega⟩)) (fun k => x1 (ix3 b n ⟨(7 : Fin 8).val * 2 + k.val, by omega⟩))
            We (fun d => be (ix2 (0 : Fin 1) d)) d := by
  have e0 := embed_row hw (fun t k => x0 (ix3 b t k)) (h0 b) hW (fun d => be (ix2 (0 : Fin 1) d)) t d
  have e1 := embed_row hw (fun t k => x1 (ix3 b n ⟨t.val * 2 + k.val, by omega⟩)) (fun t k => h1 b n _) hW (fun d => be (ix2 (0 : Fin 1) d)) t d
  have hj : ∀ j : Fin 16, x1 (ix3 b n ⟨j.val / 2 * 2 + j.val % 2, by omega⟩) = x1 (ix3 b n j) := fun j =>
    congrArg (fun k => x1 (ix3 b n k)) (Fin.ext (by show j.val / 2 * 2 + j.val % 2 = j.val; omega))
  simp only [hj] at e1
  pointwise [k1_pay3]
  rw [e0, e1]
  rfl

/-- The three layers, at a row of the block's 8192 rows. -/
theorem mlp_at (g : FVec Ideal S8192x128 .f32) (W1 : FVec Ideal S128x128 .f32) (b1 : FVec Ideal S1x128 .f32) (W2 : FVec Ideal S128x128 .f32)
    (b2 : FVec Ideal S1x128 .f32) (W3 : FVec Ideal S128x64 .f32) (b3 : FVec Ideal S1x64 .f32) (r : Fin 8192) (d : Fin 64) :
    k1_pay4 (F := Ideal) g W1 b1 W2 b2 W3 b3 (ix2 r d)
      = layer (layer (layer (fun i => g (ix2 r i)) (fun i j => W1 (ix2 i j)) (fun j => b1 (ix2 (0 : Fin 1) j)))
          (fun i j => W2 (ix2 i j)) (fun j => b2 (ix2 (0 : Fin 1) j))) (fun i j => W3 (ix2 i j)) (fun j => b3 (ix2 (0 : Fin 1) j)) d := by
  unfold layer
  pointwise [k1_pay4]

/-- The social features of one block, before they are laid out by neighbour and step. -/
theorem social_at (x0 : FVec Ideal S16x8x2 .f32) (x1 : FVec Ideal S16x64x16 .f32) (w : FVec Ideal S16x1024 .f32) (be : FVec Ideal S1x128 .f32)
    (W1 : FVec Ideal S128x128 .f32) (b1 : FVec Ideal S1x128 .f32) (W2 : FVec Ideal S128x128 .f32) (b2 : FVec Ideal S1x128 .f32)
    (W3 : FVec Ideal S128x64 .f32) (b3 : FVec Ideal S1x64 .f32)
    {We : Fin 2 → Fin 128 → EReal} (hw : BlockDiag w We) (hW : ∀ k d, IsReal (We k d))
    (h0 : ∀ b t k, IsReal (x0 (ix3 b t k))) (h1 : ∀ b n j, IsReal (x1 (ix3 b n j)))
    (b : Fin 16) (n : Fin 64) (t : Fin 8) (d : Fin 64) :
    k1_pay4 (F := Ideal) (k1_pay3 (F := Ideal) x0 x1 w be w be) W1 b1 W2 b2 W3 b3 (ix2 ⟨b.val * 512 + n.val * 8 + t.val, by omega⟩ d)
      = social (fun k => x0 (ix3 b t k)) (fun k => x1 (ix3 b n ⟨t.val * 2 + k.val, by omega⟩)) (fun k => x0 (ix3 b (7 : Fin 8) k))
          (fun k => x1 (ix3 b n ⟨(7 : Fin 8).val * 2 + k.val, by omega⟩)) We (fun d => be (ix2 (0 : Fin 1) d))
          (fun i j => W1 (ix2 i j)) (fun j => b1 (ix2 (0 : Fin 1) j)) (fun i j => W2 (ix2 i j)) (fun j => b2 (ix2 (0 : Fin 1) j))
          (fun i j => W3 (ix2 i j)) (fun j => b3 (ix2 (0 : Fin 1) j)) d := by
  rw [mlp_at]
  unfold social
  simp only [feat_at x0 x1 w be hw hW h0 h1]

/-- The first result's block lays the 8192 rows out by track, neighbour and step. -/
theorem split_at (g : FVec Ideal S8192x128 .f32) (W1 : FVec Ideal S128x128 .f32) (b1 : FVec Ideal S1x128 .f32) (W2 : FVec Ideal S128x128 .f32)
    (b2 : FVec Ideal S1x128 .f32) (W3 : FVec Ideal S128x64 .f32) (b3 : FVec Ideal S1x64 .f32) (b : Fin 16) (n : Fin 64) (t : Fin 8) (d : Fin 64) :
    k1_pay5 (F := Ideal) g W1 b1 W2 b2 W3 b3 (ix4 b n t d) = k1_pay4 (F := Ideal) g W1 b1 W2 b2 W3 b3 (ix2 ⟨b.val * 512 + n.val * 8 + t.val, by omega⟩ d) := by
  unfold k1_pay5
  generalize k1_pay4 (F := Ideal) g W1 b1 W2 b2 W3 b3 = z
  pointwise

end Cert.KernelIdeal.Value

end
-- ==== Proof.Host.lean ====
/-
  The block-diagonal embedding weights the kernel's host part builds: eight copies of `W_te` written by one scatter on the
  diagonal of a zero table of blocks, and that table read as a matrix.
-/
module

public import proofs.«01_k».proof.Proof.BodySocial
public import Idealize.ShloMosaic.Lib.Routing.OpsSet
public import Idealize.ShloMosaic.Lib.Routing.OpsPair
public import Idealize.ShloMosaic.Lib.Claim

@[expose] public section

set_option maxRecDepth 16384

noncomputable section

namespace Cert.KernelIdeal.Value

open Cert.KernelIdeal Cert.KernelIdeal.Gen Cert.Tracks
open Idealize.ShloMosaic Idealize.ShloMosaic.TcCoe Idealize.SL.Sem
open Idealize.ShloMosaic.Routing

/-- The scatter's dimension numbers, under a short name. -/
abbrev diagDims : ScatterDims S8x2x8x128 S8x2 S8x2x128 := scatter_S8x2x8x128_S8x2_S8x2x128_12_02_02_1

/-- The window axes of the table take the update's own coordinates, the two scattered axes none. -/
theorem diag_window (t : Fin 8) (c : Fin 2) (d : Fin 128) :
    diagDims.window (ix3 t c d) 0 = 0 ∧ diagDims.window (ix3 t c d) 1 = c.val ∧ diagDims.window (ix3 t c d) 2 = 0
      ∧ diagDims.window (ix3 t c d) 3 = d.val := ⟨rfl, rfl, rfl, rfl⟩

/-- Row `t` of the index table gives the start of update `t`: its first word on the first axis, its second on the third. -/
theorem diag_start (idx : IVec S8x2 32) (t : Fin 8) (c : Fin 2) (d : Fin 128) :
    diagDims.start (ix3 t c d) idx 0 = (idx (ix2 t 0)).toInt ∧ diagDims.start (ix3 t c d) idx 1 = 0
      ∧ diagDims.start (ix3 t c d) idx 2 = (idx (ix2 t 1)).toInt ∧ diagDims.start (ix3 t c d) idx 3 = 0 := by
  have h0 : diagDims.siIdx (ix3 t c d) ⟨0, by decide⟩ = ix2 t 0 := by
    funext b; fin_cases b <;> rfl
  have h1 : diagDims.siIdx (ix3 t c d) ⟨1, by decide⟩ = ix2 t 1 := by
    funext b; fin_cases b <;> rfl
  refine ⟨?_, rfl, ?_, rfl⟩
  · rw [← h0]; rfl
  · rw [← h1]; rfl

/-- Where both words of row `t` are `t`, update `(t, c, d)` lands at `(t, c, t, d)`. -/
theorem diag_lands (idx : IVec S8x2 32) (hi : ∀ (t : Fin 8) (q : Fin 2), (idx (ix2 t q)).toInt = (t.val : Int))
    (t r s : Fin 8) (c e : Fin 2) (d f : Fin 128) :
    diagDims.resultIdx? (ix3 t c d) idx = some (ix4 r e s f) ↔ t = r ∧ c = e ∧ t = s ∧ d = f := by
  rw [resultIdx?_eq_some]
  obtain ⟨w0, w1, w2, w3⟩ := diag_window t c d
  obtain ⟨s0, s1, s2, s3⟩ := diag_start idx t c d
  rw [hi] at s0 s2
  constructor
  · intro h
    have a0 := h 0
    have a1 := h 1
    have a2 := h 2
    have a3 := h 3
    rw [s0, w0] at a0
    rw [s1, w1] at a1
    rw [s2, w2] at a2
    rw [s3, w3] at a3
    change (t.val : Int) + ((0 : Nat) : Int) = (r.val : Int) at a0
    change (0 : Int) + (c.val : Int) = (e.val : Int) at a1
    change (t.val : Int) + ((0 : Nat) : Int) = (s.val : Int) at a2
    change (0 : Int) + (d.val : Int) = (f.val : Int) at a3
    exact ⟨Fin.ext (by omega), Fin.ext (by omega), Fin.ext (by omega), Fin.ext (by omega)⟩
  · rintro ⟨rfl, rfl, rfl, rfl⟩ a
    match a with
    | ⟨0, _⟩ => show diagDims.start _ idx 0 + (diagDims.window _ 0 : Int) = _; rw [s0, w0]; exact add_zero _
    | ⟨1, _⟩ => show diagDims.start _ idx 1 + (diagDims.window _ 1 : Int) = _; rw [s1, w1]; exact zero_add _
    | ⟨2, _⟩ => show diagDims.start _ idx 2 + (diagDims.window _ 2 : Int) = _; rw [s2, w2]; exact add_zero _
    | ⟨3, _⟩ => show diagDims.start _ idx 3 + (diagDims.window _ 3 : Int) = _; rw [s3, w3]; exact zero_add _

/-- The scatter's result: the updates on the diagonal of blocks, the operand off it. -/
theorem diag_scatter (x : FVec Ideal S8x2x8x128 .f32) (idx : IVec S8x2 32) (u : FVec Ideal S8x2x128 .f32)
    (hi : ∀ (t : Fin 8) (q : Fin 2), (idx (ix2 t q)).toInt = (t.val : Int)) (r s : Fin 8) (e : Fin 2) (f : Fin 128) :
    Host.scatter diagDims (fun _ b => b) x idx u (ix4 r e s f) = if r = s then u (ix3 r e f) else x (ix4 r e s f) := by
  split
  · next h =>
    subst h
    refine scatter_set_hit diagDims x idx u _ _ (fun k hk => ?_) (ix3 r e f) ((diag_lands idx hi r r r e e f f).2 ⟨rfl, rfl, rfl, rfl⟩)
    obtain ⟨t, c, d, rfl⟩ : ∃ t c d, k = ix3 t c d := ⟨k 0, k 1, k 2, eq_ix3 k⟩
    obtain ⟨rfl, rfl, _, rfl⟩ := (diag_lands idx hi _ _ _ _ _ _ _).1 hk
    rfl
  · next h =>
    refine scatter_set_miss diagDims x idx u _ fun k hk => ?_
    obtain ⟨t, c, d, rfl⟩ : ∃ t c d, k = ix3 t c d := ⟨k 0, k 1, k 2, eq_ix3 k⟩
    obtain ⟨rfl, _, h', _⟩ := (diag_lands idx hi _ _ _ _ _ _ _).1 hk
    exact h h'

/-- The table of block positions: row `t` holds `t` twice, each through the wrap of a negative index. -/
def diagIdx : IVec S8x2 32 :=
  let wrapped := select (cmpi CmpIPredicate.slt (iotaInDim S8 32 0) (broadcastInDim S8 ![] bcast_S_S8 (constantI S_ 32 0#32)))
    (addi (iotaInDim S8 32 0) (broadcastInDim S8 ![] bcast_S_S8 (constantI S_ 32 8#32))) (iotaInDim S8 32 0)
  concatenate S8x2 1 [⟨S8x1, broadcastInDim S8x1 ![0] bcast_S8_S8x1_0 wrapped⟩, ⟨S8x1, broadcastInDim S8x1 ![0] bcast_S8_S8x1_0 wrapped⟩]
    concatenates_S8x1_S8x1_S8x2_d1

/-- Both words of row `t` of the table are `t`. -/
theorem diagIdx_at (t : Fin 8) (q : Fin 2) : (diagIdx (ix2 t q)).toInt = (t.val : Int) := by
  revert t q
  unfold diagIdx
  intro t q
  pointwise
  revert t q
  decide +kernel

/-- A table of blocks read as a matrix. -/
theorem table_at (T : FVec Ideal S8x2x8x128 .f32) (j : Fin 16) (t : Fin 8) (d : Fin 128) :
    shapeCast S16x1024 T shapeCasts_S8x2x8x128_S16x1024 (ix2 j ⟨t.val * 128 + d.val, by omega⟩)
      = T (ix4 ⟨j.val / 2, by omega⟩ ⟨j.val % 2, by omega⟩ t d) := by
  pointwise

/-- Eight copies of a weight matrix: each is the matrix. -/
theorem copies_at (W : FVec Ideal S2x128 .f32) (t : Fin 8) (k : Fin 2) (d : Fin 128) :
    broadcastInDim S8x2x128 ![1, 2] bcast_S2x128_S8x2x128_1_2 W (ix3 t k d) = W (ix2 k d) := by
  pointwise

/-- The table the scatter starts from is 0. -/
theorem zeros_at (r s : Fin 8) (e : Fin 2) (f : Fin 128) :
    broadcastInDim S8x2x8x128 ![] bcast_S_S8x2x8x128 (constant (F := Ideal) S_ FTy.f32 0#32) (ix4 r e s f) = 0 := by
  pointwise

/-- The matrix the second launch reads as its weights is block diagonal in `W_te`. -/
theorem weights_diag (V : Valuation τ sig (Elt Ideal)) :
    BlockDiag (StableHlo.after (hostOps1 (F := Ideal)) V (Proc.devRef .tc main_v19))
      (fun k d => (V (Proc.devRef .tc main_arg2) : FVec Ideal S2x128 .f32) (ix2 k d)) := by
  intro j t d
  after_results
  show shapeCast S16x1024 (Host.scatter diagDims (fun _ b => b)
      (broadcastInDim S8x2x8x128 ![] bcast_S_S8x2x8x128 (constant (F := Ideal) S_ FTy.f32 0#32)) diagIdx
      (broadcastInDim S8x2x128 ![1, 2] bcast_S2x128_S8x2x128_1_2 (V (Proc.devRef .tc main_arg2) : FVec Ideal S2x128 .f32)))
    shapeCasts_S8x2x8x128_S16x1024 (ix2 j ⟨t.val * 128 + d.val, by omega⟩) = _
  rw [table_at, diag_scatter _ _ _ diagIdx_at, copies_at, zeros_at]
  exact if_congr Fin.ext_iff rfl rfl

/-- A vector read as a one-row matrix. -/
theorem row128 (x : FVec Ideal S128 .f32) (d : Fin 128) : shapeCast S1x128 x shapeCasts_S128_S1x128 (ix2 0 d) = x (ix1 d) := by
  pointwise

/-- The same at 64 entries. -/
theorem row64 (x : FVec Ideal S64 .f32) (d : Fin 64) : shapeCast S1x64 x shapeCasts_S64_S1x64 (ix2 0 d) = x (ix1 d) := by
  pointwise

/-- The neighbours' tracks with the eight steps' coordinates in one axis of sixteen. -/
theorem flat_at (x : FVec Ideal S1024x64x8x2 .f32) (b : Fin 1024) (n : Fin 64) (j : Fin 16) :
    shapeCast S1024x64x16 x shapeCasts_S1024x64x8x2_S1024x64x16 (ix3 b n j) = x (ix4 b n ⟨j.val / 2, by omega⟩ ⟨j.val % 2, by omega⟩) := by
  pointwise

/-- The reshape that splits the flat rows of the second result into steps and sectors. -/
theorem unflat_at (x : FVec Ideal S1024x64x128 .f32) (b : Fin 1024) (t k : Fin 8) (d : Fin 128) :
    shapeCast S1024x8x8x128 x shapeCasts_S1024x64x128_S1024x8x8x128 (ix4 b t k d) = x (ix3 b ⟨t.val * 8 + k.val, by omega⟩ d) := by
  pointwise

/-- The biases the second launch reads are the argument rows, and its neighbour tracks the argument with the steps flattened. -/
theorem rows_at (V : Valuation τ sig (Elt Ideal)) :
    (∀ d : Fin 128, (StableHlo.after (hostOps1 (F := Ideal)) V (Proc.devRef .tc main_v20) : FVec Ideal S1x128 .f32) (ix2 0 d)
        = (V (Proc.devRef .tc main_arg3) : FVec Ideal S128 .f32) (ix1 d))
    ∧ (∀ d : Fin 128, (StableHlo.after (hostOps1 (F := Ideal)) V (Proc.devRef .tc main_v21) : FVec Ideal S1x128 .f32) (ix2 0 d)
        = (V (Proc.devRef .tc main_arg5) : FVec Ideal S128 .f32) (ix1 d))
    ∧ (∀ d : Fin 128, (StableHlo.after (hostOps1 (F := Ideal)) V (Proc.devRef .tc main_v22) : FVec Ideal S1x128 .f32) (ix2 0 d)
        = (V (Proc.devRef .tc main_arg7) : FVec Ideal S128 .f32) (ix1 d))
    ∧ (∀ d : Fin 64, (StableHlo.after (hostOps1 (F := Ideal)) V (Proc.devRef .tc main_v23) : FVec Ideal S1x64 .f32) (ix2 0 d)
        = (V (Proc.devRef .tc main_arg9) : FVec Ideal S64 .f32) (ix1 d))
    ∧ (∀ d : Fin 64, (StableHlo.after (hostOps1 (F := Ideal)) V (Proc.devRef .tc main_v24) : FVec Ideal S1x64 .f32) (ix2 0 d)
        = (V (Proc.devRef .tc main_arg11) : FVec Ideal S64 .f32) (ix1 d))
    ∧ (∀ (b : Fin 1024) (n : Fin 64) (j : Fin 16),
        (StableHlo.after (hostOps1 (F := Ideal)) V (Proc.devRef .tc main_v25) : FVec Ideal S1024x64x16 .f32) (ix3 b n j)
        = (V (Proc.devRef .tc main_arg1) : FVec Ideal S1024x64x8x2 .f32) (ix4 b n ⟨j.val / 2, by omega⟩ ⟨j.val % 2, by omega⟩)) := by
  refine ⟨fun d => ?_, fun d => ?_, fun d => ?_, fun d => ?_, fun d => ?_, fun b n j => ?_⟩
  · after_results; exact row128 _ d
  · after_results; exact row128 _ d
  · after_results; exact row128 _ d
  · after_results; exact row64 _ d
  · after_results; exact row64 _ d
  · after_results; exact flat_at _ b n j

/-- The tracks the first launch reads: the argument with the steps flattened. -/
theorem tracks_at (V : Valuation τ sig (Elt Ideal)) (b : Fin 1024) (n : Fin 64) (j : Fin 16) :
    (StableHlo.after (hostOps0 (F := Ideal)) V (Proc.devRef .tc main_v0) : FVec Ideal S1024x64x16 .f32) (ix3 b n j)
      = (V (Proc.devRef .tc main_arg1) : FVec Ideal S1024x64x8x2 .f32) (ix4 b n ⟨j.val / 2, by omega⟩ ⟨j.val % 2, by omega⟩) := by
  after_results; exact flat_at _ b n j

/-- The second result: the flat array with its rows split into steps and sectors. -/
theorem result_at (V : Valuation τ sig (Elt Ideal)) (b : Fin 1024) (t k : Fin 8) (d : Fin 128) :
    (StableHlo.after (hostOps2 (F := Ideal)) V (Proc.devRef .tc main_v27) : FVec Ideal S1024x8x8x128 .f32) (ix4 b t k d)
      = (V (Proc.devRef .tc main_v26_1) : FVec Ideal S1024x64x128 .f32) (ix3 b ⟨t.val * 8 + k.val, by omega⟩ d) := by
  after_results; exact unflat_at _ b t k d

end Cert.KernelIdeal.Value

end
-- ==== Proof.BodyMeans.lean ====
/-
  What one grid step of the kernel's second launch computes of the sector means, at an index: the displacements, their
  lengths, angles and codes, the sums over the 512 neighbour-and-step pairs, and the means by sector.
-/
module

public import proofs.«01_k».proof.Proof.Gen.KernelIdeal.Frame
public import Idealize.ShloMosaic.Lib.Pointwise
public import proofs.«01_k».proof.Proof.Spec

@[expose] public section

set_option maxRecDepth 16384

noncomputable section

namespace Cert.KernelIdeal.Value

open Cert.KernelIdeal Cert.KernelIdeal.Gen Cert.Tracks
open Idealize.ShloMosaic Idealize.ShloMosaic.TcCoe Idealize.SL.Sem

/-- The first coordinate of the displacement. -/
theorem px_at (x0 : FVec Ideal S16x8x2 .f32) (x2 : FVec Ideal S16x16x64 .f32) (b : Fin 16) (t : Fin 8) (n : Fin 64) :
    k1_pay9 (F := Ideal) (k1_pay6 (F := Ideal) x2) (k1_pay7 (F := Ideal) x0 (k1_pay2 (F := Ideal) x0)) (ix3 b t n)
      = x2 (ix3 b ⟨t.val * 2, by omega⟩ n) + (x0 (ix3 b (7 : Fin 8) (0 : Fin 2)) - x0 (ix3 b t (0 : Fin 2))) := by
  pointwise [k1_pay9, k1_pay6, k1_pay7, k1_pay2]

/-- The second coordinate of the displacement. -/
theorem py_at (x0 : FVec Ideal S16x8x2 .f32) (x2 : FVec Ideal S16x16x64 .f32) (b : Fin 16) (t : Fin 8) (n : Fin 64) :
    k1_pay10 (F := Ideal) x0 (k1_pay6 (F := Ideal) x2) (k1_pay8 (F := Ideal) (k1_pay2 (F := Ideal) x0)) (ix3 b t n)
      = x2 (ix3 b ⟨t.val * 2 + 1, by omega⟩ n) + (x0 (ix3 b (7 : Fin 8) (1 : Fin 2)) - x0 (ix3 b t (1 : Fin 2))) := by
  pointwise [k1_pay10, k1_pay6, k1_pay8, k1_pay2]

variable (v0 : FVec Ideal S16x8x2 .f32) (v66 : FVec Ideal S16x8x2x64 .f32) (v73 : FVec Ideal S16x8x1 .f32) (v74 : FVec Ideal S16x1x1 .f32)

/-- The length of the displacement. -/
theorem len_at (b : Fin 16) (t : Fin 8) (n : Fin 64) :
    k1_pay11 (F := Ideal) v0 v66 v73 v74 (ix3 b t n) = len (k1_pay9 (F := Ideal) v66 v73 (ix3 b t n)) (k1_pay10 (F := Ideal) v0 v66 v74 (ix3 b t n)) := by
  unfold len
  pointwise [k1_pay11]

/-- The angle of the displacement. -/
theorem angle_at (b : Fin 16) (t : Fin 8) (n : Fin 64) :
    k1_pay12 (F := Ideal) v0 v66 v73 v74 (ix3 b t n) = angle (k1_pay9 (F := Ideal) v66 v73 (ix3 b t n)) (k1_pay10 (F := Ideal) v0 v66 v74 (ix3 b t n)) := by
  rw [← angle_xor]
  unfold rem turn
  pointwise [k1_pay12]

/-- The code of the displacement. -/
theorem code_at (b : Fin 16) (t : Fin 8) (n : Fin 64) :
    k1_pay13 (F := Ideal) v0 v66 v73 v74 (ix3 b t n)
      = code (k1_pay9 (F := Ideal) v66 v73 (ix3 b t n)) (k1_pay10 (F := Ideal) v0 v66 v74 (ix3 b t n)) t.val := by
  unfold code part
  rw [← len_at v0 v66 v73 v74, ← angle_at v0 v66 v73 v74]
  unfold tiny near size sector
  pointwise [k1_pay13]
  rfl

/-- The indicator of the code at a column. -/
def hit (c : BitVec 32) (k : ℕ) : EReal := (((BitVec.setWidth 32 (IntOp.cmpi .eq c (BitVec.ofNat 32 k))).toInt : ℝ) : EReal)

variable (v61 : FVec Ideal S8192x64 .f32) (v92 v107 : FVec Ideal S16x8x64 .f32) (v124 : IVec S16x8x64 32)

/-- A sum over 512 pairs, the step outermost. -/
theorem sum_steps (f : Fin 8 → Fin 64 → EReal) :
    (∑ x : Fin 512, f ⟨x.val / 64, by omega⟩ ⟨x.val % 64, by omega⟩) = ∑ t, ∑ n, f t n := by
  rw [Fin.sum_univ_tiles 8 64 rfl]
  refine Finset.sum_congr rfl fun t _ => Finset.sum_congr rfl fun n _ => congrArg₂ f (Fin.ext ?_) (Fin.ext ?_)
  · show (t.val * 64 + n.val) / 64 = t.val; omega
  · show (t.val * 64 + n.val) % 64 = n.val; omega

/-- The column numbers 0 … 63. -/
abbrev cols : IVec S1x1x1x64 32 := iota .tc S1x1x1x64 32 [3] iota_S1x1x1x64_d3_w32

/-- The sum of the lengths over the pairs whose code is the column. -/
theorem dsum_at (b : Fin 16) (c : Fin 64) :
    k1_pay14 (F := Ideal) v92 v107 v124 cols (ix3 b (0 : Fin 3) c) = ∑ t, ∑ n, v92 (ix3 b t n) * hit (v124 (ix3 b t n)) c.val := by
  pointwise [k1_pay14]
  exact sum_steps fun t n => v92 (ix3 b t n) * hit (v124 (ix3 b t n)) c.val

/-- The sum of the angles over the pairs whose code is the column. -/
theorem asum_at (b : Fin 16) (c : Fin 64) :
    k1_pay14 (F := Ideal) v92 v107 v124 cols (ix3 b (1 : Fin 3) c) = ∑ t, ∑ n, v107 (ix3 b t n) * hit (v124 (ix3 b t n)) c.val := by
  pointwise [k1_pay14]
  exact sum_steps fun t n => v107 (ix3 b t n) * hit (v124 (ix3 b t n)) c.val

/-- The number of the pairs whose code is the column. -/
theorem nsum_at (b : Fin 16) (c : Fin 64) :
    k1_pay14 (F := Ideal) v92 v107 v124 cols (ix3 b (2 : Fin 3) c) = ∑ t, ∑ n, hit (v124 (ix3 b t n)) c.val := by
  pointwise [k1_pay14]
  exact sum_steps fun t n => hit (v124 (ix3 b t n)) c.val

/-- The reciprocal of a column's count. -/
theorem inv_at (b : Fin 16) (c : Fin 64) :
    k1_pay15 (F := Ideal) v92 v107 v124 cols (ix3 b c (0 : Fin 1)) = Ideal.div 1 ((∑ t, ∑ n, hit (v124 (ix3 b t n)) c.val) + eps) := by
  rw [← nsum_at v92 v107 v124 b c]
  unfold eps
  pointwise [k1_pay15]

/-- The sum of the social features over the pairs whose code is the column, times the reciprocal. -/
theorem re_at (b : Fin 16) (c d : Fin 64) :
    k1_pay16 (F := Ideal) v61 v92 v107 v124 cols (ix3 b c d)
      = (∑ n : Fin 64, ∑ t : Fin 8, hit (v124 (ix3 b t n)) c.val * v61 (ix2 ⟨b.val * 512 + n.val * 8 + t.val, by omega⟩ d))
        * Ideal.div 1 ((∑ t, ∑ n, hit (v124 (ix3 b t n)) c.val) + eps) := by
  rw [← inv_at v92 v107 v124 b c]
  pointwise [k1_pay16]
  refine congrArg (· * _) ((Fin.sum_univ_tiles 64 8 rfl _).trans (Finset.sum_congr rfl fun n _ => Finset.sum_congr rfl fun t _ => ?_))
  have e1 : (n.val * 8 + t.val) % 8 = t.val := by omega
  have e2 : (n.val * 8 + t.val) / 8 = n.val := by omega
  simp only [e1, e2, ← Nat.add_assoc]
  rfl

/-- The mean length and the mean angle of a column, weighted. -/
theorem pos_at (w0 w1 : FVec Ideal S1x64 .f32) (b : Fin 16) (c d : Fin 64) :
    k1_pay17 (F := Ideal) v92 v107 v124 cols w0 w1 (ix3 b c d)
      = (∑ t, ∑ n, v92 (ix3 b t n) * hit (v124 (ix3 b t n)) c.val) * Ideal.div 1 ((∑ t, ∑ n, hit (v124 (ix3 b t n)) c.val) + eps) * w0 (ix2 (0 : Fin 1) d)
        + (∑ t, ∑ n, v107 (ix3 b t n) * hit (v124 (ix3 b t n)) c.val) * Ideal.div 1 ((∑ t, ∑ n, hit (v124 (ix3 b t n)) c.val) + eps) * w1 (ix2 (0 : Fin 1) d) := by
  rw [← inv_at v92 v107 v124 b c, ← dsum_at v92 v107 v124 b c, ← asum_at v92 v107 v124 b c]
  pointwise [k1_pay17]

/-- The second result's block: the features' means, then the rectified positions. -/
theorem join_at (v160 v173 : FVec Ideal S16x64x64 .f32) (w : FVec Ideal S1x64 .f32) (b : Fin 16) (c : Fin 64) (d : Fin 128) :
    k1_pay1 (F := Ideal) v160 v173 w (ix3 b c d) = if h : d.val < 64 then v160 (ix3 b c ⟨d.val, h⟩)
      else max (v173 (ix3 b c ⟨d.val - 64, by omega⟩) + w (ix2 (0 : Fin 1) ⟨d.val - 64, by omega⟩)) 0 := by
  pointwise [k1_pay1]

end Cert.KernelIdeal.Value

end
-- ==== Proof.BodySectors.lean ====
/-
  The second result of one grid step of the kernel's second launch as the problem states it: column `t * 8 + k` of the
  kernel's sixty-four collects the pairs of step `t` in sector `k` and no others, so its sums over all pairs are that
  step's sums.
-/
module

public import proofs.«01_k».proof.Proof.BodyMeans

@[expose] public section

set_option maxRecDepth 16384

noncomputable section

namespace Cert.KernelIdeal.Value

open Cert.KernelIdeal Cert.KernelIdeal.Gen Cert.Tracks
open Idealize.ShloMosaic Idealize.ShloMosaic.TcCoe Idealize.SL.Sem

/-- A sum over all steps of products with the indicator of step `t'` is the product at step `t'`. -/
theorem sum_step (f : Fin 8 → EReal) (g : Fin 8 → EReal) (t' : Fin 8) (x : EReal) (hg : ∀ t, g t = if t = t' then x else 0) :
    ∑ t, f t * g t = f t' * x := by
  rw [Finset.sum_eq_single t' (fun t _ h => by rw [hg, if_neg h, mul_zero]) (fun h => absurd (Finset.mem_univ _) h), hg, if_pos rfl]

variable (v61 : FVec Ideal S8192x64 .f32) (v92 v107 : FVec Ideal S16x8x64 .f32) (v124 : IVec S16x8x64 32) (b : Fin 16)
  (P Q : Fin 8 → Fin 64 → EReal)

variable (hc : ∀ t n, v124 (ix3 b t n) = code (P t n) (Q t n) t.val) (hP : ∀ t n, IsReal (P t n)) (hQ : ∀ t n, IsReal (Q t n))

include hc hP hQ

/-- The indicator of column `t' * 8 + k` at a pair: the mask of sector `k` at step `t'`, 0 at the other steps. -/
theorem hit_at (t t' k : Fin 8) (n : Fin 64) :
    hit (v124 (ix3 b t n)) (t'.val * 8 + k.val) = if t = t' then mask (P t' n) (Q t' n) k.val else 0 := by
  rw [hc t n]
  refine (code_mask (hP t n) (hQ t n) t t' k).trans ?_
  split
  · next h => rw [h]
  · rfl

/-- A column's sum of a value over the pairs: the total of its step and sector. -/
theorem total_at (v : Fin 8 → Fin 64 → EReal) (t' k : Fin 8) :
    (∑ t, ∑ n, v t n * hit (v124 (ix3 b t n)) (t'.val * 8 + k.val)) = total (P t') (Q t') (v t') k.val := by
  rw [Finset.sum_comm]
  exact Finset.sum_congr rfl fun n _ => sum_step (fun t => v t n) _ t' _ fun t => hit_at v124 b P Q hc hP hQ t t' k n

/-- A column's count: that of its step and sector. -/
theorem count_at (t' k : Fin 8) :
    (∑ t, ∑ n, hit (v124 (ix3 b t n)) (t'.val * 8 + k.val)) + eps = count (P t') (Q t') k.val := by
  have h := total_at v124 b P Q hc hP hQ (fun _ _ => 1) t' k
  simp only [one_mul] at h
  rw [h]
  unfold total Tracks.count
  simp only [one_mul]

/-- The mean of a value over the pairs of a column. -/
theorem mean_at (v : Fin 8 → Fin 64 → EReal) (t' k : Fin 8) :
    (∑ t, ∑ n, v t n * hit (v124 (ix3 b t n)) (t'.val * 8 + k.val))
        * Ideal.div 1 ((∑ t, ∑ n, hit (v124 (ix3 b t n)) (t'.val * 8 + k.val)) + eps)
      = mean (P t') (Q t') (v t') k.val := by
  rw [total_at v124 b P Q hc hP hQ, count_at v124 b P Q hc hP hQ, mul_recip]
  rfl

/-- The second result's block: the mean of the social features over the pairs of the step and sector, then the position
    features of the mean length and the mean angle. -/
theorem sectors_at (hl : ∀ t n, v92 (ix3 b t n) = len (P t n) (Q t n)) (ha : ∀ t n, v107 (ix3 b t n) = angle (P t n) (Q t n))
    (w0 w1 w : FVec Ideal S1x64 .f32) (t k : Fin 8) (d : Fin 128) :
    k1_pay1 (F := Ideal) (k1_pay16 (F := Ideal) v61 v92 v107 v124 cols) (k1_pay17 (F := Ideal) v92 v107 v124 cols w0 w1) w
        (ix3 b ⟨t.val * 8 + k.val, by omega⟩ d)
      = if h : d.val < 64 then
          mean (P t) (Q t) (fun n => v61 (ix2 ⟨b.val * 512 + n.val * 8 + t.val, by omega⟩ ⟨d.val, h⟩)) k.val
        else position (mean (P t) (Q t) (fun n => len (P t n) (Q t n)) k.val) (mean (P t) (Q t) (fun n => angle (P t n) (Q t n)) k.val)
          (w0 (ix2 0 ⟨d.val - 64, by omega⟩)) (w1 (ix2 0 ⟨d.val - 64, by omega⟩)) (w (ix2 0 ⟨d.val - 64, by omega⟩)) := by
  rw [join_at]
  split
  · next h =>
    rw [re_at, ← mean_at v124 b P Q hc hP hQ (fun t n => v61 (ix2 ⟨b.val * 512 + n.val * 8 + t.val, by omega⟩ ⟨d.val, h⟩)) t k]
    refine congrArg (· * _) ?_
    rw [Finset.sum_comm]
    exact Finset.sum_congr rfl fun _ _ => Finset.sum_congr rfl fun _ _ => mul_comm _ _
  · next h =>
    rw [pos_at, ← mean_at v124 b P Q hc hP hQ (fun t n => len (P t n) (Q t n)) t k, ← mean_at v124 b P Q hc hP hQ (fun t n => angle (P t n) (Q t n)) t k]
    simp only [hl, ha]
    rfl

end Cert.KernelIdeal.Value

end
-- ==== Proof.Answer.lean ====
/-
  What both programs compute, coordinate by coordinate: the twelve arguments as families of extended reals, the social
  features of every pair of tracks at every step, and the means of those features and of the pairs' positions over each
  sector.
-/
module

public import proofs.«01_k».proof.Proof.Spec

@[expose] public section

noncomputable section

namespace Cert.Tracks

/-- The tracks and the weights. -/
structure Data where
  /-- The 1024 ego tracks: eight steps, two coordinates. -/
  ego : Fin 1024 → Fin 8 → Fin 2 → EReal
  /-- The sixty-four neighbours of each. -/
  nei : Fin 1024 → Fin 64 → Fin 8 → Fin 2 → EReal
  We : Fin 2 → Fin 128 → EReal
  be : Fin 128 → EReal
  W1 : Fin 128 → Fin 128 → EReal
  b1 : Fin 128 → EReal
  W2 : Fin 128 → Fin 128 → EReal
  b2 : Fin 128 → EReal
  W3 : Fin 128 → Fin 64 → EReal
  b3 : Fin 64 → EReal
  Wc : Fin 2 → Fin 64 → EReal
  bc : Fin 64 → EReal

/-- Every coordinate of the tracks and every embedding weight is a real number. -/
structure Data.Real (D : Data) : Prop where
  ego : ∀ b t k, IsReal (D.ego b t k)
  nei : ∀ b n t k, IsReal (D.nei b n t k)
  We : ∀ k d, IsReal (D.We k d)

variable (D : Data)

/-- The social feature `d` of ego `b` and its neighbour `n` at step `t`. -/
def features (b : Fin 1024) (n : Fin 64) (t : Fin 8) (d : Fin 64) : EReal :=
  social (D.ego b t) (D.nei b n t) (D.ego b 7) (D.nei b n 7) D.We D.be D.W1 D.b1 D.W2 D.b2 D.W3 D.b3 d

/-- Coordinate `k` of the displacement of neighbour `n` seen from ego `b` at step `t`, with the ego's last step added. -/
def shift (b : Fin 1024) (t : Fin 8) (k : Fin 2) (n : Fin 64) : EReal := D.nei b n t k + D.ego b 7 k - D.ego b t k

/-- Column `d` of the resultant of ego `b` at step `t` in sector `k`: the mean social features, then the position features. -/
def resultant (b : Fin 1024) (t k : Fin 8) (d : Fin 128) : EReal :=
  if h : d.val < 64 then mean (shift D b t 0) (shift D b t 1) (fun n => features D b n t ⟨d.val, h⟩) k.val
  else position (mean (shift D b t 0) (shift D b t 1) (fun n => len (shift D b t 0 n) (shift D b t 1 n)) k.val)
    (mean (shift D b t 0) (shift D b t 1) (fun n => angle (shift D b t 0 n) (shift D b t 1 n)) k.val)
    (D.Wc 0 ⟨d.val - 64, by omega⟩) (D.Wc 1 ⟨d.val - 64, by omega⟩) (D.bc ⟨d.val - 64, by omega⟩)

/-- The displacement of real tracks is real. -/
theorem shift_real (h : D.Real) (b : Fin 1024) (t : Fin 8) (k : Fin 2) (n : Fin 64) : IsReal (shift D b t k n) :=
  ((h.nei b n t k).add (h.ego b 7 k)).sub (h.ego b t k)

end Cert.Tracks

end
-- ==== Proof.Step.lean ====
/-
  One grid step of the kernel's second launch: from blocks that hold sixteen tracks and the weights, the social features
  and the resultants of those tracks.
-/
module

public import proofs.«01_k».proof.Proof.BodySocial
public import proofs.«01_k».proof.Proof.BodySectors
public import proofs.«01_k».proof.Proof.Answer

@[expose] public section

set_option maxRecDepth 16384

noncomputable section

namespace Cert.KernelIdeal.Value

open Cert.KernelIdeal Cert.KernelIdeal.Gen Cert.Tracks
open Idealize.ShloMosaic Idealize.ShloMosaic.TcCoe Idealize.SL.Sem

/-- The blocks one grid step of the second launch reads, when they hold the tracks `β 0`, …, `β 15` of `D` and its weights. -/
structure Blocks (D : Data) (β : Fin 16 → Fin 1024) (x0 : FVec Ideal S16x8x2 .f32) (x1 : FVec Ideal S16x64x16 .f32) (x2 : FVec Ideal S16x16x64 .f32)
    (x3 : FVec Ideal S16x1024 .f32) (x4 : FVec Ideal S1x128 .f32) (x5 : FVec Ideal S128x128 .f32) (x6 : FVec Ideal S1x128 .f32)
    (x7 : FVec Ideal S128x128 .f32) (x8 : FVec Ideal S1x128 .f32) (x9 : FVec Ideal S128x64 .f32) (x10 : FVec Ideal S1x64 .f32)
    (w0 w1 : FVec Ideal S1x64 .f32) (x12 : FVec Ideal S1x64 .f32) : Prop where
  ego : ∀ b t k, x0 (ix3 b t k) = D.ego (β b) t k
  nei : ∀ b n (j : Fin 16), x1 (ix3 b n j) = D.nei (β b) n ⟨j.val / 2, by omega⟩ ⟨j.val % 2, by omega⟩
  neiT : ∀ b n (j : Fin 16), x2 (ix3 b j n) = D.nei (β b) n ⟨j.val / 2, by omega⟩ ⟨j.val % 2, by omega⟩
  diag : BlockDiag x3 D.We
  be : ∀ d, x4 (ix2 0 d) = D.be d
  W1 : ∀ i j, x5 (ix2 i j) = D.W1 i j
  b1 : ∀ d, x6 (ix2 0 d) = D.b1 d
  W2 : ∀ i j, x7 (ix2 i j) = D.W2 i j
  b2 : ∀ d, x8 (ix2 0 d) = D.b2 d
  W3 : ∀ i j, x9 (ix2 i j) = D.W3 i j
  b3 : ∀ d, x10 (ix2 0 d) = D.b3 d
  Wc0 : ∀ j, w0 (ix2 0 j) = D.Wc 0 j
  Wc1 : ∀ j, w1 (ix2 0 j) = D.Wc 1 j
  bc : ∀ d, x12 (ix2 0 d) = D.bc d

section step

variable {D : Data} {β : Fin 16 → Fin 1024} {x0 : FVec Ideal S16x8x2 .f32} {x1 : FVec Ideal S16x64x16 .f32} {x2 : FVec Ideal S16x16x64 .f32}
    {x3 : FVec Ideal S16x1024 .f32} {x4 : FVec Ideal S1x128 .f32} {x5 : FVec Ideal S128x128 .f32} {x6 : FVec Ideal S1x128 .f32}
    {x7 : FVec Ideal S128x128 .f32} {x8 : FVec Ideal S1x128 .f32} {x9 : FVec Ideal S128x64 .f32} {x10 : FVec Ideal S1x64 .f32}
    {w0 w1 : FVec Ideal S1x64 .f32} {x12 : FVec Ideal S1x64 .f32}
    (B : Blocks D β x0 x1 x2 x3 x4 x5 x6 x7 x8 x9 x10 w0 w1 x12) (hD : D.Real)

include B hD

/-- One grid step's rows are the social features of its tracks. -/
theorem step_features (b : Fin 16) (n : Fin 64) (t : Fin 8) (d : Fin 64) :
    k1_pay4 (F := Ideal) (k1_pay3 (F := Ideal) x0 x1 x3 x4 x3 x4) x5 x6 x7 x8 x9 x10 (ix2 ⟨b.val * 512 + n.val * 8 + t.val, by omega⟩ d)
      = features D (β b) n t d := by
  have hn : ∀ (t : Fin 8), (fun k : Fin 2 => x1 (ix3 b n ⟨t.val * 2 + k.val, by omega⟩)) = D.nei (β b) n t := fun t => funext fun k => by
    rw [B.nei]
    exact congrArg₂ (D.nei (β b) n) (Fin.ext (by show (t.val * 2 + k.val) / 2 = t.val; omega)) (Fin.ext (by show (t.val * 2 + k.val) % 2 = k.val; omega))
  rw [social_at x0 x1 x3 x4 x5 x6 x7 x8 x9 x10 B.diag hD.We (fun b t k => by rw [B.ego]; exact hD.ego _ _ _)
    (fun b n j => by rw [B.nei]; exact hD.nei _ _ _ _), hn t, hn 7]
  simp only [B.ego, B.be, B.W1, B.b1, B.W2, B.b2, B.W3, B.b3]
  rfl

/-- One grid step's block of the second array. -/
theorem step_resultants (b : Fin 16) (t k : Fin 8) (d : Fin 128) :
    let v66 := k1_pay6 (F := Ideal) x2
    let v73 := k1_pay7 (F := Ideal) x0 (k1_pay2 (F := Ideal) x0)
    let v74 := k1_pay8 (F := Ideal) (k1_pay2 (F := Ideal) x0)
    let v92 := k1_pay11 (F := Ideal) x0 v66 v73 v74
    let v107 := k1_pay12 (F := Ideal) x0 v66 v73 v74
    let v124 := k1_pay13 (F := Ideal) x0 v66 v73 v74
    k1_pay1 (F := Ideal) (k1_pay16 (F := Ideal) (k1_pay4 (F := Ideal) (k1_pay3 (F := Ideal) x0 x1 x3 x4 x3 x4) x5 x6 x7 x8 x9 x10) v92 v107 v124 cols)
        (k1_pay17 (F := Ideal) v92 v107 v124 cols w0 w1) x12 (ix3 b ⟨t.val * 8 + k.val, by omega⟩ d)
      = resultant D (β b) t k d := by
  intro v66 v73 v74 v92 v107 v124
  have hp : ∀ (t : Fin 8) (n : Fin 64), k1_pay9 (F := Ideal) v66 v73 (ix3 b t n) = shift D (β b) t 0 n := fun t n => by
    rw [px_at, B.neiT, B.ego, B.ego]
    refine Eq.trans ?_ (shift_eq (hD.nei _ n t 0) (hD.ego _ 7 0) (hD.ego _ t 0))
    refine congrArg (· + _) (congrArg₂ (D.nei (β b) n) (Fin.ext ?_) (Fin.ext ?_))
    · show t.val * 2 / 2 = t.val; omega
    · show t.val * 2 % 2 = 0; omega
  have hq : ∀ (t : Fin 8) (n : Fin 64), k1_pay10 (F := Ideal) x0 v66 v74 (ix3 b t n) = shift D (β b) t 1 n := fun t n => by
    rw [py_at, B.neiT, B.ego, B.ego]
    refine Eq.trans ?_ (shift_eq (hD.nei _ n t 1) (hD.ego _ 7 1) (hD.ego _ t 1))
    refine congrArg (· + _) (congrArg₂ (D.nei (β b) n) (Fin.ext ?_) (Fin.ext ?_))
    · show (t.val * 2 + 1) / 2 = t.val; omega
    · show (t.val * 2 + 1) % 2 = 1; omega
  rw [sectors_at _ v92 v107 v124 b (fun t n => shift D (β b) t 0 n) (fun t n => shift D (β b) t 1 n)
    (fun t n => (code_at x0 v66 v73 v74 b t n).trans (by rw [hp, hq])) (fun t n => shift_real D hD _ _ _ _) (fun t n => shift_real D hD _ _ _ _)
    (fun t n => (len_at x0 v66 v73 v74 b t n).trans (by rw [hp, hq]))
    (fun t n => (angle_at x0 v66 v73 v74 b t n).trans (by rw [hp, hq]))]
  simp only [step_features B hD, B.Wc0, B.Wc1, B.bc]
  rfl

end step

end Cert.KernelIdeal.Value

end
-- ==== Proof.Blocks.lean ====
/-
  The array the kernel's first launch leaves, and the blocks the second reads at a grid step.
-/
module

public import proofs.«01_k».proof.Proof.Step
public import Idealize.ShloMosaic.Lib.Pipeline.ValueKit

@[expose] public section

set_option maxRecDepth 16384

noncomputable section

namespace Cert.KernelIdeal.Value

open Cert.KernelIdeal Cert.KernelIdeal.Gen Cert.Tracks
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The first launch -/

/-- The blocks of the first launch's two windows: 64 tracks each. -/
theorem idx0 : ∀ t : Fin cfg0.N, win0_0.index t = ![t.val, 0, 0] ∧ win0_1.index t = ![t.val, 0, 0] :=
  (by decide +kernel : ∀ t : Fin grid0.N, _)

/-- The first launch swaps the last two axes. -/
def swapped (x : FVec Ideal S1024x64x16 .f32) : FVec Ideal S1024x16x64 .f32 := fun i => x (ix3 (i 0) (i 2) (i 1))

/-- What the first launch leaves: its input with the last two axes swapped. -/
theorem array0 : (dat0 V c).arrAt 1 cfg0.N = swapped (V c main_v0) := by
  refine (dat0 V c).arrAt_eq_of_covers 1 _ (by decide +kernel) fun t _ y => ?_
  blk_simp
  rw [after0_1]
  frame_out
  unfold swapped
  pointwise [k0_pay1]
  blk_point [iblk0, idx0 t]

/-! ## The second launch -/

/-- The blocks of the second launch's windows: 16 tracks each, the weights whole. -/
theorem idx1 : ∀ t : Fin cfg1.N, win1_0.index t = ![t.val, 0, 0] ∧ win1_1.index t = ![t.val, 0, 0] ∧ win1_2.index t = ![t.val, 0, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![0, 0] ∧ win1_12.index t = ![0, 0]
    ∧ win1_13.index t = ![t.val, 0, 0, 0] ∧ win1_14.index t = ![t.val, 0, 0] :=
  (by decide +kernel : ∀ t : Fin grid1.N, _)

/-- What the second launch reads: the tracks in three layouts and the weights, all from the arguments `D`. -/
structure Entry (D : Data) : Prop where
  ego : ∀ b t k, (V c main_arg0 : FVec Ideal S1024x8x2 .f32) (ix3 b t k) = D.ego b t k
  nei : ∀ b n (j : Fin 16), (V c main_v25 : FVec Ideal S1024x64x16 .f32) (ix3 b n j) = D.nei b n ⟨j.val / 2, by omega⟩ ⟨j.val % 2, by omega⟩
  neiT : ∀ b n (j : Fin 16), (V c main_v1 : FVec Ideal S1024x16x64 .f32) (ix3 b j n) = D.nei b n ⟨j.val / 2, by omega⟩ ⟨j.val % 2, by omega⟩
  diag : BlockDiag (V c main_v19) D.We
  be : ∀ d, (V c main_v20 : FVec Ideal S1x128 .f32) (ix2 0 d) = D.be d
  W1 : ∀ i j, (V c main_arg4 : FVec Ideal S128x128 .f32) (ix2 i j) = D.W1 i j
  b1 : ∀ d, (V c main_v21 : FVec Ideal S1x128 .f32) (ix2 0 d) = D.b1 d
  W2 : ∀ i j, (V c main_arg6 : FVec Ideal S128x128 .f32) (ix2 i j) = D.W2 i j
  b2 : ∀ d, (V c main_v22 : FVec Ideal S1x128 .f32) (ix2 0 d) = D.b2 d
  W3 : ∀ i j, (V c main_arg8 : FVec Ideal S128x64 .f32) (ix2 i j) = D.W3 i j
  b3 : ∀ d, (V c main_v23 : FVec Ideal S1x64 .f32) (ix2 0 d) = D.b3 d
  Wc : ∀ i j, (V c main_arg10 : FVec Ideal S2x64 .f32) (ix2 i j) = D.Wc i j
  bc : ∀ d, (V c main_v24 : FVec Ideal S1x64 .f32) (ix2 0 d) = D.bc d

variable {V c} {D : Data} (E : Entry V c D) (hD : D.Real) (t : Fin cfg1.N)

/-- Track `b` of the sixteen at grid step `t`. -/
def trackOf (t : Fin cfg1.N) (b : Fin 16) : Fin 1024 := ⟨t.val * 16 + b.val, by
  have ht := t.isLt
  have h : cfg1.N = 64 := by decide +kernel
  omega⟩

/-! A weight's block is the whole array, at every grid step. -/

theorem whole3 : iblk1 V c 3 t = V c main_v19 := by
  funext j; blk_ext! [iblk1, idx1 t]
theorem whole4 : iblk1 V c 4 t = V c main_v20 := by
  funext j; blk_ext! [iblk1, idx1 t]
theorem whole5 : iblk1 V c 5 t = V c main_arg4 := by
  funext j; blk_ext! [iblk1, idx1 t]
theorem whole6 : iblk1 V c 6 t = V c main_v21 := by
  funext j; blk_ext! [iblk1, idx1 t]
theorem whole7 : iblk1 V c 7 t = V c main_arg6 := by
  funext j; blk_ext! [iblk1, idx1 t]
theorem whole8 : iblk1 V c 8 t = V c main_v22 := by
  funext j; blk_ext! [iblk1, idx1 t]
theorem whole9 : iblk1 V c 9 t = V c main_arg8 := by
  funext j; blk_ext! [iblk1, idx1 t]
theorem whole10 : iblk1 V c 10 t = V c main_v23 := by
  funext j; blk_ext! [iblk1, idx1 t]
theorem whole11 : iblk1 V c 11 t = V c main_arg10 := by
  funext j; blk_ext! [iblk1, idx1 t]
theorem whole12 : iblk1 V c 12 t = V c main_v24 := by
  funext j; blk_ext! [iblk1, idx1 t]

/-- The ego block. -/
theorem block0 (b : Fin 16) (t' : Fin 8) (k : Fin 2) :
    (iblk1 V c 0 t : FVec Ideal S16x8x2 .f32) (ix3 b t' k) = (V c main_arg0 : FVec Ideal S1024x8x2 .f32) (ix3 (trackOf t b) t' k) := by
  unfold trackOf; blk_ext [iblk1, idx1 t]

/-- The neighbours' block. -/
theorem block1 (b : Fin 16) (n : Fin 64) (j : Fin 16) :
    (iblk1 V c 1 t : FVec Ideal S16x64x16 .f32) (ix3 b n j) = (V c main_v25 : FVec Ideal S1024x64x16 .f32) (ix3 (trackOf t b) n j) := by
  unfold trackOf; blk_ext [iblk1, idx1 t]

/-- The transposed neighbours' block. -/
theorem block2 (b j : Fin 16) (n : Fin 64) :
    (iblk1 V c 2 t : FVec Ideal S16x16x64 .f32) (ix3 b j n) = (V c main_v1 : FVec Ideal S1024x16x64 .f32) (ix3 (trackOf t b) j n) := by
  unfold trackOf; blk_ext [iblk1, idx1 t]

/-- The two rows of the position weights, each loaded on its own. -/
theorem rows2 (x : Vec Ideal S2x64 .f32) (j : Fin 64) :
    View.ld (Val := Elt Ideal) (e' := .f32) x r1_9 (ix2 0 j) = x (ix2 0 j) ∧ View.ld (Val := Elt Ideal) (e' := .f32) x r1_10 (ix2 0 j) = x (ix2 1 j) := by
  constructor <;> pointwise

include E in
/-- The blocks of a grid step hold its tracks and the weights. -/
theorem blocks_at : Blocks D (trackOf t) (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (View.ld (iblk1 V c 11 t) r1_9) (View.ld (iblk1 V c 11 t) r1_10)
    (iblk1 V c 12 t) where
  ego b t' k := (block0 t b t' k).trans (E.ego _ _ _)
  nei b n j := (block1 t b n j).trans (E.nei _ _ _)
  neiT b n j := (block2 t b j n).trans (E.neiT _ _ _)
  diag := by rw [whole3]; exact E.diag
  be d := by rw [whole4]; exact E.be d
  W1 i j := by rw [whole5]; exact E.W1 i j
  b1 d := by rw [whole6]; exact E.b1 d
  W2 i j := by rw [whole7]; exact E.W2 i j
  b2 d := by rw [whole8]; exact E.b2 d
  W3 i j := by rw [whole9]; exact E.W3 i j
  b3 d := by rw [whole10]; exact E.b3 d
  Wc0 j := by rw [whole11]; exact (rows2 _ j).1.trans (E.Wc 0 j)
  Wc1 j := by rw [whole11]; exact (rows2 _ j).2.trans (E.Wc 1 j)
  bc d := by rw [whole12]; exact E.bc d

end Cert.KernelIdeal.Value

end
-- ==== Proof.Arrays.lean ====
/-
  The two arrays the kernel's second launch leaves, each from what one grid step stores.
-/
module

public import proofs.«01_k».proof.Proof.Blocks
public import Idealize.ShloMosaic.Lib.Pipeline.ValueKit

@[expose] public section

set_option maxRecDepth 16384

noncomputable section

namespace Cert.KernelIdeal.Value

open Cert.KernelIdeal Cert.KernelIdeal.Gen Cert.Tracks
open Idealize.ShloMosaic Idealize.ShloMosaic.TcCoe Idealize.SL.Sem
open Idealize.ShloMosaic.Pipeline (Dat)

variable {V : (c : Dev nD) → (b : Ref sig .tc) → Buf (Elt Ideal) ((c : Thread nD τ).loc b)} {c : Dev nD}

/-- The first result array. -/
def featureArray (D : Data) : FVec Ideal S1024x64x8x64 .f32 := fun i => features D (i 0) (i 1) (i 2) (i 3)

/-- The second launch's second array: rows by step and sector. -/
def resultantRows (D : Data) : FVec Ideal S1024x64x128 .f32 := fun i =>
  resultant D (i 0) ⟨(i 1).val / 8, by have : (i 1).val < 64 := (i 1).isLt; omega⟩ ⟨(i 1).val % 8, by omega⟩ (i 2)

variable {D : Data} (E : Entry V c D) (hD : D.Real)

include E hD

/-- The first result array holds the social features. -/
theorem array13 : (dat1 V c).arrAt 13 cfg1.N = featureArray D := by
  refine (dat1 V c).arrAt_eq_of_covers 13 _ (by decide +kernel) fun t _ y => ?_
  blk_simp
  rw [after1_13]
  unfold_out out1_13
  frame_out
  obtain ⟨b, n, t', d, rfl⟩ : ∃ (b : Fin 16) (n : Fin 64) (t' : Fin 8) (d : Fin 64), y = ix4 b n t' d := ⟨y 0, y 1, y 2, y 3, eq_ix4 y⟩
  refine ((split_at _ _ _ _ _ _ _ b n t' d).trans (step_features (blocks_at E t) hD b n t' d)).trans ?_
  refine Eq.trans (b := featureArray D (ix4 (trackOf t b) n t' d)) rfl ?_
  unfold trackOf
  blk_ext [idx1 t]

/-- The second launch's second array holds the resultants. -/
theorem array14 : (dat1 V c).arrAt 14 cfg1.N = resultantRows D := by
  refine (dat1 V c).arrAt_eq_of_covers 14 _ (by decide +kernel) fun t _ y => ?_
  blk_simp
  rw [after1_14]
  unfold_out out1_14
  frame_out
  obtain ⟨b, r, d, rfl⟩ : ∃ (b : Fin 16) (r : Fin 64) (d : Fin 128), y = ix3 b r d := ⟨y 0, y 1, y 2, eq_ix3 y⟩
  obtain ⟨t', k, rfl⟩ : ∃ t' k : Fin 8, r = ⟨t'.val * 8 + k.val, by omega⟩ :=
    ⟨⟨r.val / 8, by omega⟩, ⟨r.val % 8, by omega⟩, Fin.ext (by show r.val = r.val / 8 * 8 + r.val % 8; omega)⟩
  refine (step_resultants (blocks_at E t) hD b t' k d).trans ?_
  refine Eq.trans (b := resultantRows D (ix3 (trackOf t b) ⟨t'.val * 8 + k.val, by omega⟩ d)) ?_ ?_
  · exact congrArg₂ (fun t' k => resultant D (trackOf t b) t' k d) (Fin.ext (by show t'.val = (t'.val * 8 + k.val) / 8; omega))
      (Fin.ext (by show k.val = (t'.val * 8 + k.val) % 8; omega))
  · unfold trackOf
    blk_ext [idx1 t]

end Cert.KernelIdeal.Value

end
-- ==== Proof.KResult.lean ====
/-
  The kernel's two results over the launch memory: the social features and the resultants of the data in its arguments.
-/
module

public import proofs.«01_k».proof.Proof.KRun
public import proofs.«01_k».proof.Proof.Host
public import proofs.«01_k».proof.Proof.Arrays

@[expose] public section

set_option maxRecDepth 16384

noncomputable section

namespace Cert.KernelIdeal.Value

open Cert.KernelIdeal Cert.KernelIdeal.Gen Cert.Tracks
open Idealize.ShloMosaic Idealize.ShloMosaic.TcCoe Idealize.SL.Sem

variable (m : (ℓ : Loc nD τ sig) → Buf (Elt Ideal) ℓ) (ρ : Dev nD → PrngReg) (c : Dev nD)

/-- The tracks and the weights in the kernel's arguments. -/
def data : Data where
  ego b t k := (m ((c : Thread nD τ).loc main_arg0) : FVec Ideal S1024x8x2 .f32) (ix3 b t k)
  nei b n t k := (m ((c : Thread nD τ).loc main_arg1) : FVec Ideal S1024x64x8x2 .f32) (ix4 b n t k)
  We k d := (m ((c : Thread nD τ).loc main_arg2) : FVec Ideal S2x128 .f32) (ix2 k d)
  be d := (m ((c : Thread nD τ).loc main_arg3) : FVec Ideal S128 .f32) (ix1 d)
  W1 i j := (m ((c : Thread nD τ).loc main_arg4) : FVec Ideal S128x128 .f32) (ix2 i j)
  b1 j := (m ((c : Thread nD τ).loc main_arg5) : FVec Ideal S128 .f32) (ix1 j)
  W2 i j := (m ((c : Thread nD τ).loc main_arg6) : FVec Ideal S128x128 .f32) (ix2 i j)
  b2 j := (m ((c : Thread nD τ).loc main_arg7) : FVec Ideal S128 .f32) (ix1 j)
  W3 i j := (m ((c : Thread nD τ).loc main_arg8) : FVec Ideal S128x64 .f32) (ix2 i j)
  b3 j := (m ((c : Thread nD τ).loc main_arg9) : FVec Ideal S64 .f32) (ix1 j)
  Wc i j := (m ((c : Thread nD τ).loc main_arg10) : FVec Ideal S2x64 .f32) (ix2 i j)
  bc j := (m ((c : Thread nD τ).loc main_arg11) : FVec Ideal S64 .f32) (ix1 j)

/-- The transposed tracks the second launch reads. -/
theorem entry_tracks (b : Fin 1024) (n : Fin 64) (j : Fin 16) :
    (W3 m ρ c (Proc.devRef .tc main_v1) : FVec Ideal S1024x16x64 .f32) (ix3 b j n)
      = (data m c).nei b n ⟨j.val / 2, by omega⟩ ⟨j.val % 2, by omega⟩ := by
  rw [W3_of m ρ c main_v1 (by decide)]
  have h := (W2_arr m ρ c 1).trans (array0 (V1 m ρ) c)
  exact (congrFun h (ix3 b j n)).trans (tracks_at (W0 m ρ c) b n j)

/-- The second launch reads the data in the arguments. -/
theorem entry : Entry (V3 m ρ) c (data m c) where
  ego b t k := congrFun (W3_args m ρ c main_arg0 (by decide)) (ix3 b t k)
  nei b n j := ((rows_at (W2 m ρ c)).2.2.2.2.2 b n j).trans (congrFun (W2_args m ρ c main_arg1 (by decide)) _)
  neiT b n j := entry_tracks m ρ c b n j
  diag := by
    have h := weights_diag (W2 m ρ c)
    rw [W2_args m ρ c main_arg2 (by decide)] at h
    exact h
  be d := ((rows_at (W2 m ρ c)).1 d).trans (congrFun (W2_args m ρ c main_arg3 (by decide)) _)
  W1 i j := congrFun (W3_args m ρ c main_arg4 (by decide)) (ix2 i j)
  b1 d := ((rows_at (W2 m ρ c)).2.1 d).trans (congrFun (W2_args m ρ c main_arg5 (by decide)) _)
  W2 i j := congrFun (W3_args m ρ c main_arg6 (by decide)) (ix2 i j)
  b2 d := ((rows_at (W2 m ρ c)).2.2.1 d).trans (congrFun (W2_args m ρ c main_arg7 (by decide)) _)
  W3 i j := congrFun (W3_args m ρ c main_arg8 (by decide)) (ix2 i j)
  b3 d := ((rows_at (W2 m ρ c)).2.2.2.1 d).trans (congrFun (W2_args m ρ c main_arg9 (by decide)) _)
  Wc i j := congrFun (W3_args m ρ c main_arg10 (by decide)) (ix2 i j)
  bc d := ((rows_at (W2 m ρ c)).2.2.2.2.1 d).trans (congrFun (W2_args m ρ c main_arg11 (by decide)) _)

variable (hD : (data m c).Real)

include hD

/-- The second result of the kernel: the social features. -/
theorem result_features (b : Fin 1024) (n : Fin 64) (t : Fin 8) (d : Fin 64) :
    (W5 m ρ c (Proc.devRef .tc main_v26_0) : FVec Ideal S1024x64x8x64 .f32) (ix4 b n t d) = features (data m c) b n t d := by
  rw [W5_of m ρ c main_v26_0 (by decide)]
  exact congrFun ((W4_arr m ρ c 13).trans (array13 (entry m ρ c) hD)) (ix4 b n t d)

/-- The first result of the kernel: the resultants. -/
theorem result_resultants (b : Fin 1024) (t k : Fin 8) (d : Fin 128) :
    (W5 m ρ c (Proc.devRef .tc main_v27) : FVec Ideal S1024x8x8x128 .f32) (ix4 b t k d) = resultant (data m c) b t k d := by
  refine (result_at (W4 m ρ c) b t k d).trans ?_
  refine (congrFun ((W4_arr m ρ c 14).trans (array14 (entry m ρ c) hD)) (ix3 b ⟨t.val * 8 + k.val, by omega⟩ d)).trans ?_
  exact congrArg₂ (fun t' k' => resultant (data m c) b t' k' d) (Fin.ext (by show (t.val * 8 + k.val) / 8 = t.val; omega))
    (Fin.ext (by show (t.val * 8 + k.val) % 8 = k.val; omega))

end Cert.KernelIdeal.Value

end
-- ==== Proof.RefPairs.lean ====
/-
  What the reference computes of every pair of tracks at every step, at an index: the social features, the displacement
  with its length and angle, and the masks of the eight sectors.
-/
module

public import proofs.«01_k».proof.Proof.Gen.ReferenceIdeal.Run
public import proofs.«01_k».proof.Proof.Answer
public import Idealize.ShloMosaic.Lib.Pointwise

@[expose] public section

set_option maxRecDepth 16384

noncomputable section

namespace Cert.ReferenceIdeal.Value

open Cert.ReferenceIdeal Cert.ReferenceIdeal.Gen Cert.Tracks
open Idealize.ShloMosaic Idealize.ShloMosaic.TcCoe Idealize.SL.Sem

variable (V : Valuation τ sig (Elt Ideal))

/-- The tracks and the weights in the reference's arguments. -/
def data : Data where
  ego b t k := (V (Proc.devRef .tc main_arg0) : FVec Ideal S1024x8x2 .f32) (ix3 b t k)
  nei b n t k := (V (Proc.devRef .tc main_arg1) : FVec Ideal S1024x64x8x2 .f32) (ix4 b n t k)
  We k d := (V (Proc.devRef .tc main_arg2) : FVec Ideal S2x128 .f32) (ix2 k d)
  be d := (V (Proc.devRef .tc main_arg3) : FVec Ideal S128 .f32) (ix1 d)
  W1 i j := (V (Proc.devRef .tc main_arg4) : FVec Ideal S128x128 .f32) (ix2 i j)
  b1 j := (V (Proc.devRef .tc main_arg5) : FVec Ideal S128 .f32) (ix1 j)
  W2 i j := (V (Proc.devRef .tc main_arg6) : FVec Ideal S128x128 .f32) (ix2 i j)
  b2 j := (V (Proc.devRef .tc main_arg7) : FVec Ideal S128 .f32) (ix1 j)
  W3 i j := (V (Proc.devRef .tc main_arg8) : FVec Ideal S128x64 .f32) (ix2 i j)
  b3 j := (V (Proc.devRef .tc main_arg9) : FVec Ideal S64 .f32) (ix1 j)
  Wc i j := (V (Proc.devRef .tc main_arg10) : FVec Ideal S2x64 .f32) (ix2 i j)
  bc j := (V (Proc.devRef .tc main_arg11) : FVec Ideal S64 .f32) (ix1 j)

/-! ## The displacement -/

/-- The displacement's two coordinates. -/
theorem shift_at (b : Fin 1024) (n : Fin 64) (t : Fin 8) (k : Fin 2) :
    (res_main_v38 V : FVec Ideal S1024x64x8x2 .f32) (ix4 b n t k) = shift (data V) b t k n := by
  unfold shift data
  pointwise [res_main_v38]

/-- Its length. -/
theorem ref_len (b : Fin 1024) (n : Fin 64) (t : Fin 8) :
    (res_main_v39 V : FVec Ideal S1024x64x8 .f32) (ix3 b n t) = len (shift (data V) b t 0 n) (shift (data V) b t 1 n) := by
  rw [← shift_at, ← shift_at]
  unfold res_main_v39 len
  generalize res_main_v38 V = z
  change FVec Ideal S1024x64x8x2 .f32 at z
  pointwise
  rw [Fin.sum_univ_two]

/-- The remainder of its angle by one turn. -/
theorem ref_rem (b : Fin 1024) (n : Fin 64) (t : Fin 8) :
    (res_main_call5_v2 V : FVec Ideal S1024x64x8 .f32) (ix3 b n t) = rem (shift (data V) b t 0 n) (shift (data V) b t 1 n) := by
  rw [← shift_at, ← shift_at]
  unfold res_main_call5_v2 res_main_call5_v0 rem turn
  generalize res_main_v38 V = z
  change FVec Ideal S1024x64x8x2 .f32 at z
  pointwise
  rfl

/-- Its angle. -/
theorem ref_angle (b : Fin 1024) (n : Fin 64) (t : Fin 8) :
    (res_main_v45 V : FVec Ideal S1024x64x8 .f32) (ix3 b n t) = angle (shift (data V) b t 0 n) (shift (data V) b t 1 n) := by
  rw [← angle_ne, ← ref_rem]
  unfold res_main_v45 res_main_call5_v0 turn
  generalize res_main_call5_v2 V = z
  change FVec Ideal S1024x64x8 .f32 at z
  pointwise
  rfl

/-- The reference's partition number of a pair. -/
theorem ref_part (b : Fin 1024) (n : Fin 64) (t : Fin 8) :
    (res_main_v63 V : IVec S1024x64x8 32) (ix3 b n t) = refPart (shift (data V) b t 0 n) (shift (data V) b t 1 n) := by
  unfold refPart part
  rw [← ref_angle, ← ref_len, ← shift_at, ← shift_at]
  unfold res_main_v63 res_main_v57 tiny near size sector
  generalize res_main_v45 V = a
  generalize res_main_v39 V = l
  generalize res_main_v38 V = z
  change FVec Ideal S1024x64x8 .f32 at a
  change FVec Ideal S1024x64x8 .f32 at l
  change FVec Ideal S1024x64x8x2 .f32 at z
  pointwise
  rw [Fin.sum_univ_two]
  rfl

/-- The mask of sector `k` at a pair. -/
theorem ref_mask_at (k : ℕ) (hk : k < 8) (b : Fin 1024) (n : Fin 64) (t : Fin 8) :
    uitofp (F := Ideal) .f32 (cmpi .eq (res_main_v63 V : IVec S1024x64x8 32)
      (broadcastInDim S1024x64x8 ![] bcast_S_S1024x64x8 (constantI S_ 32 (BitVec.ofNat 32 k)))) (ix3 b n t)
      = mask (shift (data V) b t 0 n) (shift (data V) b t 1 n) k := by
  rw [← ref_mask _ _ k hk, ← ref_part]
  generalize res_main_v63 V = z
  change IVec S1024x64x8 32 at z
  pointwise
  rfl

/-! ## The social features -/

/-- The embedded displacements: the ego's in row 0, neighbour `n`'s in row `n + 1`. -/
theorem ref_embed (b : Fin 1024) (r : Fin 65) (t : Fin 8) (d : Fin 128) :
    (res_main_v12 V : FVec Ideal S1024x65x8x128 .f32) (ix4 b r t d)
      = if h : r.val < 1 then embed ((data V).ego b t) ((data V).ego b 7) (data V).We (data V).be d
        else embed ((data V).nei b ⟨r.val - 1, by omega⟩ t) ((data V).nei b ⟨r.val - 1, by omega⟩ 7) (data V).We (data V).be d := by
  unfold embed layer data
  split
  · next h =>
    pointwise [res_main_v12]
    simp only [h, ↓reduceDIte]
  · next h =>
    pointwise [res_main_v12]
    simp only [h, ↓reduceDIte]

/-- The social features. -/
theorem ref_features (b : Fin 1024) (n : Fin 64) (t : Fin 8) (d : Fin 64) :
    (res_main_v31 V : FVec Ideal S1024x64x8x64 .f32) (ix4 b n t d) = features (data V) b n t d := by
  have h0 := fun d => ref_embed V b 0 t d
  have h1 := fun d => ref_embed V b ⟨1 + n.val, by omega⟩ t d
  simp only [Fin.val_zero, Nat.lt_one_iff, Nat.add_eq_zero_iff, one_ne_zero, false_and, ↓reduceDIte, Nat.add_sub_cancel_left] at h0 h1
  unfold features social
  simp only [← h0, ← h1]
  unfold res_main_v31 layer data
  generalize res_main_v12 V = z
  change FVec Ideal S1024x65x8x128 .f32 at z
  pointwise

end Cert.ReferenceIdeal.Value

end
-- ==== Proof.RefSectors.lean ====
/-
  What the reference computes of every sector, at an index: its counts, the means of the lengths, the angles and the social
  features, and the result that joins them.
-/
module

public import proofs.«01_k».proof.Proof.RefPairs
public import Idealize.ShloMosaic.Lib.Pointwise

@[expose] public section

set_option maxRecDepth 16384

noncomputable section

namespace Cert.ReferenceIdeal.Value

open Cert.ReferenceIdeal Cert.ReferenceIdeal.Gen Cert.Tracks
open Idealize.ShloMosaic Idealize.ShloMosaic.TcCoe Idealize.SL.Sem

variable (V : Valuation τ sig (Elt Ideal))

/-- The eight masks at a pair. -/
theorem masks_at (b : Fin 1024) (n : Fin 64) (t : Fin 8) :
    res_main_v66 V (ix3 b n t) = mask (shift (data V) b t 0 n) (shift (data V) b t 1 n) 0
    ∧ res_main_v85 V (ix3 b n t) = mask (shift (data V) b t 0 n) (shift (data V) b t 1 n) 1
    ∧ res_main_v104 V (ix3 b n t) = mask (shift (data V) b t 0 n) (shift (data V) b t 1 n) 2
    ∧ res_main_v123 V (ix3 b n t) = mask (shift (data V) b t 0 n) (shift (data V) b t 1 n) 3
    ∧ res_main_v142 V (ix3 b n t) = mask (shift (data V) b t 0 n) (shift (data V) b t 1 n) 4
    ∧ res_main_v161 V (ix3 b n t) = mask (shift (data V) b t 0 n) (shift (data V) b t 1 n) 5
    ∧ res_main_v180 V (ix3 b n t) = mask (shift (data V) b t 0 n) (shift (data V) b t 1 n) 6
    ∧ res_main_v199 V (ix3 b n t) = mask (shift (data V) b t 0 n) (shift (data V) b t 1 n) 7 :=
  ⟨ref_mask_at V 0 (by decide) b n t, ref_mask_at V 1 (by decide) b n t, ref_mask_at V 2 (by decide) b n t, ref_mask_at V 3 (by decide) b n t, ref_mask_at V 4 (by decide) b n t, ref_mask_at V 5 (by decide) b n t, ref_mask_at V 6 (by decide) b n t, ref_mask_at V 7 (by decide) b n t⟩

/-- A sector's count, from its mask. -/
theorem count_of (z : FVec Ideal S1024x64x8 .f32) (b : Fin 1024) (t : Fin 8) :
    addf (Host.reduceAdd z (constant S_ .f32 0x00000000#32) reducesTo_S1024x64x8_S1024x8_d1 h_S_)
      (broadcastInDim S1024x8 ![] bcast_S_S1024x8 (constant S_ .f32 0x38D1B717#32)) (ix2 b t) = (∑ n, z (ix3 b n t)) + eps := by
  unfold eps
  pointwise

/-- The eight counts at a step. -/
theorem counts_at (b : Fin 1024) (t : Fin 8) :
    res_main_v69 V (ix2 b t) = count (shift (data V) b t 0) (shift (data V) b t 1) 0
    ∧ res_main_v88 V (ix2 b t) = count (shift (data V) b t 0) (shift (data V) b t 1) 1
    ∧ res_main_v107 V (ix2 b t) = count (shift (data V) b t 0) (shift (data V) b t 1) 2
    ∧ res_main_v126 V (ix2 b t) = count (shift (data V) b t 0) (shift (data V) b t 1) 3
    ∧ res_main_v145 V (ix2 b t) = count (shift (data V) b t 0) (shift (data V) b t 1) 4
    ∧ res_main_v164 V (ix2 b t) = count (shift (data V) b t 0) (shift (data V) b t 1) 5
    ∧ res_main_v183 V (ix2 b t) = count (shift (data V) b t 0) (shift (data V) b t 1) 6
    ∧ res_main_v202 V (ix2 b t) = count (shift (data V) b t 0) (shift (data V) b t 1) 7 := by
  have hm := fun n => masks_at V b n t
  unfold Tracks.count
  refine ⟨?_, ?_, ?_, ?_, ?_, ?_, ?_, ?_⟩
  all_goals refine (count_of _ b t).trans (congrArg (· + eps) (Finset.sum_congr rfl fun n _ => ?_))
  all_goals simp only [hm]

/-- The mean length and the mean angle of a sector. -/
theorem ref_means (b : Fin 1024) (t k : Fin 8) :
    (res_main_v248 V : FVec Ideal S1024x8x8x2 .f32) (ix4 b t k 0)
        = mean (shift (data V) b t 0) (shift (data V) b t 1) (fun n => len (shift (data V) b t 0 n) (shift (data V) b t 1 n)) k.val
      ∧ (res_main_v248 V : FVec Ideal S1024x8x8x2 .f32) (ix4 b t k 1)
        = mean (shift (data V) b t 0) (shift (data V) b t 1) (fun n => angle (shift (data V) b t 0 n) (shift (data V) b t 1 n)) k.val := by
  have hm := fun n => masks_at V b n t
  have hc := counts_at V b t
  have hl := fun n => ref_len V b n t
  have ha := fun n => ref_angle V b n t
  unfold mean total
  simp only [← hl, ← ha]
  unfold res_main_v248
  generalize res_main_v39 V = x39
  generalize res_main_v45 V = x45
  generalize res_main_v66 V = x66 at hm ⊢
  generalize res_main_v85 V = x85 at hm ⊢
  generalize res_main_v104 V = x104 at hm ⊢
  generalize res_main_v123 V = x123 at hm ⊢
  generalize res_main_v142 V = x142 at hm ⊢
  generalize res_main_v161 V = x161 at hm ⊢
  generalize res_main_v180 V = x180 at hm ⊢
  generalize res_main_v199 V = x199 at hm ⊢
  generalize res_main_v69 V = x69 at hc ⊢
  generalize res_main_v88 V = x88 at hc ⊢
  generalize res_main_v107 V = x107 at hc ⊢
  generalize res_main_v126 V = x126 at hc ⊢
  generalize res_main_v145 V = x145 at hc ⊢
  generalize res_main_v164 V = x164 at hc ⊢
  generalize res_main_v183 V = x183 at hc ⊢
  generalize res_main_v202 V = x202 at hc ⊢
  change FVec Ideal S1024x64x8 .f32 at x39
  change FVec Ideal S1024x64x8 .f32 at x45
  change FVec Ideal S1024x64x8 .f32 at x66
  change FVec Ideal S1024x64x8 .f32 at x85
  change FVec Ideal S1024x64x8 .f32 at x104
  change FVec Ideal S1024x64x8 .f32 at x123
  change FVec Ideal S1024x64x8 .f32 at x142
  change FVec Ideal S1024x64x8 .f32 at x161
  change FVec Ideal S1024x64x8 .f32 at x180
  change FVec Ideal S1024x64x8 .f32 at x199
  change FVec Ideal S1024x8 .f32 at x69
  change FVec Ideal S1024x8 .f32 at x88
  change FVec Ideal S1024x8 .f32 at x107
  change FVec Ideal S1024x8 .f32 at x126
  change FVec Ideal S1024x8 .f32 at x145
  change FVec Ideal S1024x8 .f32 at x164
  change FVec Ideal S1024x8 .f32 at x183
  change FVec Ideal S1024x8 .f32 at x202
  constructor
  · pointwise
    fin_vals k with hk
    all_goals simp only [hk, Nat.reduceSub, Nat.reduceLT, ↓reduceDIte, hm, hc]
  · pointwise
    fin_vals k with hk
    all_goals simp only [hk, Nat.reduceSub, Nat.reduceLT, ↓reduceDIte, hm, hc]

/-- The mean social features of a sector. -/
theorem ref_mean_features (b : Fin 1024) (t k : Fin 8) (d : Fin 64) :
    (res_main_v257 V : FVec Ideal S1024x8x8x64 .f32) (ix4 b t k d)
      = mean (shift (data V) b t 0) (shift (data V) b t 1) (fun n => features (data V) b n t d) k.val := by
  have hm := fun n => masks_at V b n t
  have hc := counts_at V b t
  have hf := fun n => ref_features V b n t d
  unfold mean total
  simp only [← hf]
  unfold res_main_v257
  clear hf
  generalize res_main_v31 V = f
  generalize res_main_v66 V = x66 at hm ⊢
  generalize res_main_v85 V = x85 at hm ⊢
  generalize res_main_v104 V = x104 at hm ⊢
  generalize res_main_v123 V = x123 at hm ⊢
  generalize res_main_v142 V = x142 at hm ⊢
  generalize res_main_v161 V = x161 at hm ⊢
  generalize res_main_v180 V = x180 at hm ⊢
  generalize res_main_v199 V = x199 at hm ⊢
  generalize res_main_v69 V = x69 at hc ⊢
  generalize res_main_v88 V = x88 at hc ⊢
  generalize res_main_v107 V = x107 at hc ⊢
  generalize res_main_v126 V = x126 at hc ⊢
  generalize res_main_v145 V = x145 at hc ⊢
  generalize res_main_v164 V = x164 at hc ⊢
  generalize res_main_v183 V = x183 at hc ⊢
  generalize res_main_v202 V = x202 at hc ⊢
  change FVec Ideal S1024x64x8x64 .f32 at f
  change FVec Ideal S1024x64x8 .f32 at x66
  change FVec Ideal S1024x64x8 .f32 at x85
  change FVec Ideal S1024x64x8 .f32 at x104
  change FVec Ideal S1024x64x8 .f32 at x123
  change FVec Ideal S1024x64x8 .f32 at x142
  change FVec Ideal S1024x64x8 .f32 at x161
  change FVec Ideal S1024x64x8 .f32 at x180
  change FVec Ideal S1024x64x8 .f32 at x199
  change FVec Ideal S1024x8 .f32 at x69
  change FVec Ideal S1024x8 .f32 at x88
  change FVec Ideal S1024x8 .f32 at x107
  change FVec Ideal S1024x8 .f32 at x126
  change FVec Ideal S1024x8 .f32 at x145
  change FVec Ideal S1024x8 .f32 at x164
  change FVec Ideal S1024x8 .f32 at x183
  change FVec Ideal S1024x8 .f32 at x202
  pointwise
  fin_vals k with hk
  all_goals simp only [hk, Nat.reduceSub, Nat.reduceLT, ↓reduceDIte, hm, hc]

/-- The reference's first result: the mean features joined to the rectified position features. -/
abbrev joined : FVec Ideal S1024x8x8x128 .f32 :=
  concatenate S1024x8x8x128 3 [⟨S1024x8x8x64, (res_main_v257 V)⟩, ⟨S1024x8x8x64, (maximumf (addf (Host.dotGeneral (φ₁ := .f32) (φ₂ := .f32) dot_S1024x8x8x2_S2x64_S1024x8x8x64_3_0_012_1_n_n none (res_main_v248 V) (V (Proc.devRef .tc main_arg10))) (broadcastInDim S1024x8x8x64 ![0, 1, 2, 3] bcast_S1x1x1x64_S1024x8x8x64_0_1_2_3 (broadcastInDim S1x1x1x64 ![3] bcast_S64_S1x1x1x64_3 (V (Proc.devRef .tc main_arg11))))) (broadcastInDim S1024x8x8x64 ![] bcast_S_S1024x8x8x64 (constant S_ .f32 0x00000000#32)))⟩] concatenates_S1024x8x8x64_S1024x8x8x64_S1024x8x8x128_d3

/-- It is the resultants. -/
theorem ref_resultant (b : Fin 1024) (t k : Fin 8) (d : Fin 128) : joined V (ix4 b t k d) = resultant (data V) b t k d := by
  have hf := fun d => ref_mean_features V b t k d
  have hp := ref_means V b t k
  unfold resultant position joined
  simp only [← hf, ← hp.1, ← hp.2]
  clear hf hp
  unfold data
  generalize res_main_v257 V = f
  generalize res_main_v248 V = p
  change FVec Ideal S1024x8x8x64 .f32 at f
  change FVec Ideal S1024x8x8x2 .f32 at p
  pointwise
  simp only [Fin.sum_univ_two]

end Cert.ReferenceIdeal.Value

end
-- ==== Proof.Pre.lean ====
/-
  What the precondition says: the tracks and the first layer's weights are real numbers.
-/
module

public import proofs.«01_k».proof.Defs
public import proofs.«01_k».proof.Proof.KResult
public import proofs.«01_k».proof.Proof.Gen.Pre_finite_inputs
public import Idealize.ShloMosaic.Lib.ReduceAll

@[expose] public section

set_option maxRecDepth 16384

noncomputable section

namespace Cert.Pre_finite_inputs.Value

open Cert.Pre_finite_inputs Cert.Tracks Idealize.ShloMosaic

/-- There is one index of a scalar. -/
instance : Subsingleton S_.Idx := ⟨fun i j => funext fun a => a.elim0⟩

/-- A value whose size is below infinity is a real number. -/
theorem isReal_of_size (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x with
  | bot => simp at h
  | top => simp at h
  | coe r => exact ⟨r, rfl⟩

/-- Where "every size is below infinity" came out true, every entry is a real number. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32)))
      (constantI S_ 1 1#1) h hu j = 1#1) (i : s.Idx) : IsReal (x i) :=
  isReal_of_size (x i) (Host.reduce_andi_all _ _ h hu j e i)

/-- Where the precondition is true, the three arrays it reads are real numbers. -/
theorem real_of_fn (x0 : FVec Ideal S1024x8x2 .f32) (x1 : FVec Ideal S1024x64x8x2 .f32) (x2 : FVec Ideal S2x128 .f32)
    (x3 : FVec Ideal S128 .f32) (x4 : FVec Ideal S128x128 .f32) (x5 : FVec Ideal S128 .f32) (x6 : FVec Ideal S128x128 .f32)
    (x7 : FVec Ideal S128 .f32) (x8 : FVec Ideal S128x64 .f32) (x9 : FVec Ideal S64 .f32) (x10 : FVec Ideal S2x64 .f32)
    (x11 : FVec Ideal S64 .f32) (e : fn (F := Ideal) x0 x1 x2 x3 x4 x5 x6 x7 x8 x9 x10 x11 = fun _ => 1#1) :
    (∀ i, IsReal (x0 i)) ∧ (∀ i, IsReal (x1 i)) ∧ ∀ i, IsReal (x2 i) := by
  have e0 := congrFun e (fun a => a.elim0)
  obtain ⟨e01, e2⟩ := IntOp.andi_eq_one.1 e0
  obtain ⟨e0, e1⟩ := IntOp.andi_eq_one.1 e01
  exact ⟨real_of_all x0 _ _ _ _ e0, real_of_all x1 _ _ _ _ e1, real_of_all x2 _ _ _ _ e2⟩

end Cert.Pre_finite_inputs.Value

namespace Cert.KernelIdeal.Value

open Cert.KernelIdeal Cert.Tracks Idealize.ShloMosaic Idealize.SL.Sem

/-- Under the precondition the data in the kernel's arguments are real. -/
theorem data_real (m : (ℓ : Loc nD τ sig) → Buf (Elt Ideal) ℓ) (h : Cert.Pre_KernelIdeal_finite_inputs m) (c : Dev nD) :
    (data m c).Real := by
  obtain ⟨h0, h1, h2⟩ := Cert.Pre_finite_inputs.Value.real_of_fn _ _ _ _ _ _ _ _ _ _ _ _ (h c)
  exact ⟨fun b t k => h0 _, fun b n t k => h1 _, fun k d => h2 _⟩

end Cert.KernelIdeal.Value

end
-- ==== Proof.lean ====
/-
  The five claims, assembled: the frames of the three programs, the idealization's preservation, and the equation of the
  kernel with the reference over the extended reals, on both results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.KResult
public import proofs.«01_k».proof.Proof.RefSectors
public import proofs.«01_k».proof.Proof.Pre
public import Idealize.ShloMosaic.Adequacy
public import Idealize.ShloMosaic.Init

@[expose] public section

set_option maxRecDepth 16384

noncomputable section

namespace Cert.Proof

open Idealize.ShloMosaic Idealize.SL.Sem Cert.Tracks

/-- The reference terminates, keeps its arguments, and leaves every counter at zero: it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Arguments that agree hold the same tracks and weights. -/
theorem data_eq (m : (ℓ : Loc KernelIdeal.nD KernelIdeal.τ KernelIdeal.sig) → Buf (Elt Ideal) ℓ)
    (V : Valuation ReferenceIdeal.τ ReferenceIdeal.sig (Elt Ideal)) (c : Dev KernelIdeal.nD)
    (h0 : V (Proc.devRef .tc ReferenceIdeal.main_arg0) = m ((c.tc : Thread _ _).loc KernelIdeal.main_arg0))
    (h1 : V (Proc.devRef .tc ReferenceIdeal.main_arg1) = m ((c.tc : Thread _ _).loc KernelIdeal.main_arg1))
    (h2 : V (Proc.devRef .tc ReferenceIdeal.main_arg2) = m ((c.tc : Thread _ _).loc KernelIdeal.main_arg2))
    (h3 : V (Proc.devRef .tc ReferenceIdeal.main_arg3) = m ((c.tc : Thread _ _).loc KernelIdeal.main_arg3))
    (h4 : V (Proc.devRef .tc ReferenceIdeal.main_arg4) = m ((c.tc : Thread _ _).loc KernelIdeal.main_arg4))
    (h5 : V (Proc.devRef .tc ReferenceIdeal.main_arg5) = m ((c.tc : Thread _ _).loc KernelIdeal.main_arg5))
    (h6 : V (Proc.devRef .tc ReferenceIdeal.main_arg6) = m ((c.tc : Thread _ _).loc KernelIdeal.main_arg6))
    (h7 : V (Proc.devRef .tc ReferenceIdeal.main_arg7) = m ((c.tc : Thread _ _).loc KernelIdeal.main_arg7))
    (h8 : V (Proc.devRef .tc ReferenceIdeal.main_arg8) = m ((c.tc : Thread _ _).loc KernelIdeal.main_arg8))
    (h9 : V (Proc.devRef .tc ReferenceIdeal.main_arg9) = m ((c.tc : Thread _ _).loc KernelIdeal.main_arg9))
    (h10 : V (Proc.devRef .tc ReferenceIdeal.main_arg10) = m ((c.tc : Thread _ _).loc KernelIdeal.main_arg10))
    (h11 : V (Proc.devRef .tc ReferenceIdeal.main_arg11) = m ((c.tc : Thread _ _).loc KernelIdeal.main_arg11)) :
    ReferenceIdeal.Value.data V = KernelIdeal.Value.data m c := by
  unfold ReferenceIdeal.Value.data KernelIdeal.Value.data
  rw [h0, h1, h2, h3, h4, h5, h6, h7, h8, h9, h10, h11]

/-- Over the same real data the reference's first result is the kernel's. -/
theorem resultants_eq (m : (ℓ : Loc KernelIdeal.nD KernelIdeal.τ KernelIdeal.sig) → Buf (Elt Ideal) ℓ)
    (g : Dev KernelIdeal.nD → PrngReg) (c : Dev KernelIdeal.nD)
    (V : Valuation ReferenceIdeal.τ ReferenceIdeal.sig (Elt Ideal)) (hD : (KernelIdeal.Value.data m c).Real)
    (h : ReferenceIdeal.Value.data V = KernelIdeal.Value.data m c) :
    ReferenceIdeal.Value.joined V = KernelIdeal.Gen.W5 m g c (Proc.devRef .tc KernelIdeal.main_v27) := by
  funext i
  rw [eq_ix4 i]
  refine (ReferenceIdeal.Value.ref_resultant V _ _ _ _).trans ?_
  rw [h]
  exact (KernelIdeal.Value.result_resultants m g c hD _ _ _ _).symm

/-- Over the same real data the reference's second result is the kernel's. -/
theorem features_eq (m : (ℓ : Loc KernelIdeal.nD KernelIdeal.τ KernelIdeal.sig) → Buf (Elt Ideal) ℓ)
    (g : Dev KernelIdeal.nD → PrngReg) (c : Dev KernelIdeal.nD)
    (V : Valuation ReferenceIdeal.τ ReferenceIdeal.sig (Elt Ideal)) (hD : (KernelIdeal.Value.data m c).Real)
    (h : ReferenceIdeal.Value.data V = KernelIdeal.Value.data m c) :
    (ReferenceIdeal.Value.res_main_v31 V : FVec Ideal ReferenceIdeal.S1024x64x8x64 .f32)
      = KernelIdeal.Gen.W5 m g c (Proc.devRef .tc KernelIdeal.main_v26_0) := by
  funext i
  rw [eq_ix4 i]
  refine (ReferenceIdeal.Value.ref_features V _ _ _ _).trans ?_
  rw [h]
  exact (KernelIdeal.Value.result_features m g c hD _ _ _ _).symm

/-- Kernel and reference compute the same two arrays over the extended reals. -/
theorem algebraic : Cert.algebraic_KernelIdeal_ReferenceIdeal_pre_finite_inputs := by
  intro m g m' g' hpre hag
  refine ⟨fun c => KernelIdeal.Gen.W5 m g c (Proc.devRef .tc KernelIdeal.main_v27),
    fun c => KernelIdeal.Gen.W5 m g c (Proc.devRef .tc KernelIdeal.main_v26_0), KernelIdeal.Value.run m g, ?_⟩
  refine (θ_run ReferenceIdeal.defs _ _).mono (fun r h c => ?_) (ReferenceIdeal.Value.run (F := Ideal) m' g')
  obtain ⟨a0, a1, a2, a3, a4, a5, a6, a7, a8, a9, a10, a11⟩ := hag c
  have hd := data_eq m (StableHlo.launchContents m' c) c a0 a1 a2 a3 a4 a5 a6 a7 a8 a9 a10 a11
  have hD := KernelIdeal.Value.data_real m hpre c
  exact ⟨(h c).1.trans (resultants_eq m g c _ hD hd), (h c).2.1.trans (features_eq m g c _ hD hd), (h c).2.2⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
